-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_scores [hPre_finite_scores : Cert.Pre_finite_scores.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_scores [hAttnRefIdeal : Cert.AttnRefIdeal.Facts] [hPre_finite_scores : Cert.Pre_finite_scores.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_scores m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5)
      ∧ r.2.mem ((c.tc : Thread Cert.Outproj.nD Cert.Outproj.τ).loc Cert.Outproj.main_arg6) = m ((c.tc : Thread Cert.Outproj.nD Cert.Outproj.τ).loc Cert.Outproj.main_arg6)
      ∧ r.2.mem ((c.tc : Thread Cert.Outproj.nD Cert.Outproj.τ).loc Cert.Outproj.main_arg7) = m ((c.tc : Thread Cert.Outproj.nD Cert.Outproj.τ).loc Cert.Outproj.main_arg7)
      ∧ r.2.mem ((c.tc : Thread Cert.Outproj.nD Cert.Outproj.τ).loc Cert.Outproj.main_arg8) = m ((c.tc : Thread Cert.Outproj.nD Cert.Outproj.τ).loc Cert.Outproj.main_arg8)
      ∧ r.2.mem ((c.tc : Thread Cert.Outproj.nD Cert.Outproj.τ).loc Cert.Outproj.main_arg9) = m ((c.tc : Thread Cert.Outproj.nD Cert.Outproj.τ).loc Cert.Outproj.main_arg9)
      ∧ r.2.mem ((c.tc : Thread Cert.Outproj.nD Cert.Outproj.τ).loc Cert.Outproj.main_arg10) = m ((c.tc : Thread Cert.Outproj.nD Cert.Outproj.τ).loc Cert.Outproj.main_arg10)
      ∧ r.2.mem ((c.tc : Thread Cert.Outproj.nD Cert.Outproj.τ).loc Cert.Outproj.main_arg11) = m ((c.tc : Thread Cert.Outproj.nD Cert.Outproj.τ).loc Cert.Outproj.main_arg11))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
      ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
      ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
      ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8)
      ∧ r.2.mem ((c.tc : Thread Cert.OutprojIdeal.nD Cert.OutprojIdeal.τ).loc Cert.OutprojIdeal.main_arg9) = m ((c.tc : Thread Cert.OutprojIdeal.nD Cert.OutprojIdeal.τ).loc Cert.OutprojIdeal.main_arg9)
      ∧ r.2.mem ((c.tc : Thread Cert.OutprojIdeal.nD Cert.OutprojIdeal.τ).loc Cert.OutprojIdeal.main_arg10) = m ((c.tc : Thread Cert.OutprojIdeal.nD Cert.OutprojIdeal.τ).loc Cert.OutprojIdeal.main_arg10)
      ∧ r.2.mem ((c.tc : Thread Cert.OutprojIdeal.nD Cert.OutprojIdeal.τ).loc Cert.OutprojIdeal.main_arg11) = m ((c.tc : Thread Cert.OutprojIdeal.nD Cert.OutprojIdeal.τ).loc Cert.OutprojIdeal.main_arg11))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4)
      ∧ r.2.mem ((c.tc : Thread Cert.OutprojRefIdeal.nD Cert.OutprojRefIdeal.τ).loc Cert.OutprojRefIdeal.main_arg5) = m ((c.tc : Thread Cert.OutprojRefIdeal.nD Cert.OutprojRefIdeal.τ).loc Cert.OutprojRefIdeal.main_arg5)
      ∧ r.2.mem ((c.tc : Thread Cert.OutprojRefIdeal.nD Cert.OutprojRefIdeal.τ).loc Cert.OutprojRefIdeal.main_arg6) = m ((c.tc : Thread Cert.OutprojRefIdeal.nD Cert.OutprojRefIdeal.τ).loc Cert.OutprojRefIdeal.main_arg6)
      ∧ r.2.mem ((c.tc : Thread Cert.OutprojRefIdeal.nD Cert.OutprojRefIdeal.τ).loc Cert.OutprojRefIdeal.main_arg7) = m ((c.tc : Thread Cert.OutprojRefIdeal.nD Cert.OutprojRefIdeal.τ).loc Cert.OutprojRefIdeal.main_arg7)
      ∧ r.2.mem ((c.tc : Thread Cert.OutprojRefIdeal.nD Cert.OutprojRefIdeal.τ).loc Cert.OutprojRefIdeal.main_arg8) = m ((c.tc : Thread Cert.OutprojRefIdeal.nD Cert.OutprojRefIdeal.τ).loc Cert.OutprojRefIdeal.main_arg8)
      ∧ r.2.mem ((c.tc : Thread Cert.OutprojRefIdeal.nD Cert.OutprojRefIdeal.τ).loc Cert.OutprojRefIdeal.main_arg9) = m ((c.tc : Thread Cert.OutprojRefIdeal.nD Cert.OutprojRefIdeal.τ).loc Cert.OutprojRefIdeal.main_arg9)
      ∧ r.2.mem ((c.tc : Thread Cert.OutprojRefIdeal.nD Cert.OutprojRefIdeal.τ).loc Cert.OutprojRefIdeal.main_arg10) = m ((c.tc : Thread Cert.OutprojRefIdeal.nD Cert.OutprojRefIdeal.τ).loc Cert.OutprojRefIdeal.main_arg10)
      ∧ r.2.mem ((c.tc : Thread Cert.OutprojRefIdeal.nD Cert.OutprojRefIdeal.τ).loc Cert.OutprojRefIdeal.main_arg11) = m ((c.tc : Thread Cert.OutprojRefIdeal.nD Cert.OutprojRefIdeal.τ).loc Cert.OutprojRefIdeal.main_arg11))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_finite_scores [hAttnIdeal : Cert.AttnIdeal.Facts] [hAttnRefIdeal : Cert.AttnRefIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_scores m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v3)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v3) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v116) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v19) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v0)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v0) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v14) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)
      ∧ m' ((c.tc : Thread Cert.OutprojRefIdeal.nD Cert.OutprojRefIdeal.τ).loc Cert.OutprojRefIdeal.main_arg5) = m ((c.tc : Thread Cert.OutprojIdeal.nD Cert.OutprojIdeal.τ).loc Cert.OutprojIdeal.main_arg5)
      ∧ m' ((c.tc : Thread Cert.OutprojRefIdeal.nD Cert.OutprojRefIdeal.τ).loc Cert.OutprojRefIdeal.main_arg6) = m ((c.tc : Thread Cert.OutprojIdeal.nD Cert.OutprojIdeal.τ).loc Cert.OutprojIdeal.main_arg6)
      ∧ m' ((c.tc : Thread Cert.OutprojRefIdeal.nD Cert.OutprojRefIdeal.τ).loc Cert.OutprojRefIdeal.main_arg7) = m ((c.tc : Thread Cert.OutprojIdeal.nD Cert.OutprojIdeal.τ).loc Cert.OutprojIdeal.main_arg7)
      ∧ m' ((c.tc : Thread Cert.OutprojRefIdeal.nD Cert.OutprojRefIdeal.τ).loc Cert.OutprojRefIdeal.main_arg8) = m ((c.tc : Thread Cert.OutprojIdeal.nD Cert.OutprojIdeal.τ).loc Cert.OutprojIdeal.main_arg8)
      ∧ m' ((c.tc : Thread Cert.OutprojRefIdeal.nD Cert.OutprojRefIdeal.τ).loc Cert.OutprojRefIdeal.main_arg9) = m ((c.tc : Thread Cert.OutprojIdeal.nD Cert.OutprojIdeal.τ).loc Cert.OutprojIdeal.main_arg9)
      ∧ m' ((c.tc : Thread Cert.OutprojRefIdeal.nD Cert.OutprojRefIdeal.τ).loc Cert.OutprojRefIdeal.main_arg10) = m ((c.tc : Thread Cert.OutprojIdeal.nD Cert.OutprojIdeal.τ).loc Cert.OutprojIdeal.main_arg10)
      ∧ m' ((c.tc : Thread Cert.OutprojRefIdeal.nD Cert.OutprojRefIdeal.τ).loc Cert.OutprojRefIdeal.main_arg11) = m ((c.tc : Thread Cert.OutprojIdeal.nD Cert.OutprojIdeal.τ).loc Cert.OutprojIdeal.main_arg11)) →
    ∃ (v0 : (c : Dev Cert.OutprojIdeal.nD) → Buf (Elt Ideal) ((c.tc : Thread Cert.OutprojIdeal.nD Cert.OutprojIdeal.τ).loc Cert.OutprojIdeal.main_v0_0)) (v1 : (c : Dev Cert.OutprojIdeal.nD) → Buf (Elt Ideal) ((c.tc : Thread Cert.OutprojIdeal.nD Cert.OutprojIdeal.τ).loc Cert.OutprojIdeal.main_v0_1)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v0_0) = v0 c
          ∧ r.2.mem ((c.tc : Thread Cert.OutprojIdeal.nD Cert.OutprojIdeal.τ).loc Cert.OutprojIdeal.main_v0_1) = v1 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5)
          ∧ r.2.mem ((c.tc : Thread Cert.OutprojIdeal.nD Cert.OutprojIdeal.τ).loc Cert.OutprojIdeal.main_arg6) = m ((c.tc : Thread Cert.OutprojIdeal.nD Cert.OutprojIdeal.τ).loc Cert.OutprojIdeal.main_arg6)
          ∧ r.2.mem ((c.tc : Thread Cert.OutprojIdeal.nD Cert.OutprojIdeal.τ).loc Cert.OutprojIdeal.main_arg7) = m ((c.tc : Thread Cert.OutprojIdeal.nD Cert.OutprojIdeal.τ).loc Cert.OutprojIdeal.main_arg7)
          ∧ r.2.mem ((c.tc : Thread Cert.OutprojIdeal.nD Cert.OutprojIdeal.τ).loc Cert.OutprojIdeal.main_arg8) = m ((c.tc : Thread Cert.OutprojIdeal.nD Cert.OutprojIdeal.τ).loc Cert.OutprojIdeal.main_arg8)
          ∧ r.2.mem ((c.tc : Thread Cert.OutprojIdeal.nD Cert.OutprojIdeal.τ).loc Cert.OutprojIdeal.main_arg9) = m ((c.tc : Thread Cert.OutprojIdeal.nD Cert.OutprojIdeal.τ).loc Cert.OutprojIdeal.main_arg9)
          ∧ r.2.mem ((c.tc : Thread Cert.OutprojIdeal.nD Cert.OutprojIdeal.τ).loc Cert.OutprojIdeal.main_arg10) = m ((c.tc : Thread Cert.OutprojIdeal.nD Cert.OutprojIdeal.τ).loc Cert.OutprojIdeal.main_arg10)
          ∧ r.2.mem ((c.tc : Thread Cert.OutprojIdeal.nD Cert.OutprojIdeal.τ).loc Cert.OutprojIdeal.main_arg11) = m ((c.tc : Thread Cert.OutprojIdeal.nD Cert.OutprojIdeal.τ).loc Cert.OutprojIdeal.main_arg11))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v54) = v0 c
          ∧ r.2.mem ((c.tc : Thread Cert.OutprojRefIdeal.nD Cert.OutprojRefIdeal.τ).loc Cert.OutprojRefIdeal.main_v67) = v1 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4)
          ∧ r.2.mem ((c.tc : Thread Cert.OutprojRefIdeal.nD Cert.OutprojRefIdeal.τ).loc Cert.OutprojRefIdeal.main_arg5) = m' ((c.tc : Thread Cert.OutprojRefIdeal.nD Cert.OutprojRefIdeal.τ).loc Cert.OutprojRefIdeal.main_arg5)
          ∧ r.2.mem ((c.tc : Thread Cert.OutprojRefIdeal.nD Cert.OutprojRefIdeal.τ).loc Cert.OutprojRefIdeal.main_arg6) = m' ((c.tc : Thread Cert.OutprojRefIdeal.nD Cert.OutprojRefIdeal.τ).loc Cert.OutprojRefIdeal.main_arg6)
          ∧ r.2.mem ((c.tc : Thread Cert.OutprojRefIdeal.nD Cert.OutprojRefIdeal.τ).loc Cert.OutprojRefIdeal.main_arg7) = m' ((c.tc : Thread Cert.OutprojRefIdeal.nD Cert.OutprojRefIdeal.τ).loc Cert.OutprojRefIdeal.main_arg7)
          ∧ r.2.mem ((c.tc : Thread Cert.OutprojRefIdeal.nD Cert.OutprojRefIdeal.τ).loc Cert.OutprojRefIdeal.main_arg8) = m' ((c.tc : Thread Cert.OutprojRefIdeal.nD Cert.OutprojRefIdeal.τ).loc Cert.OutprojRefIdeal.main_arg8)
          ∧ r.2.mem ((c.tc : Thread Cert.OutprojRefIdeal.nD Cert.OutprojRefIdeal.τ).loc Cert.OutprojRefIdeal.main_arg9) = m' ((c.tc : Thread Cert.OutprojRefIdeal.nD Cert.OutprojRefIdeal.τ).loc Cert.OutprojRefIdeal.main_arg9)
          ∧ r.2.mem ((c.tc : Thread Cert.OutprojRefIdeal.nD Cert.OutprojRefIdeal.τ).loc Cert.OutprojRefIdeal.main_arg10) = m' ((c.tc : Thread Cert.OutprojRefIdeal.nD Cert.OutprojRefIdeal.τ).loc Cert.OutprojRefIdeal.main_arg10)
          ∧ r.2.mem ((c.tc : Thread Cert.OutprojRefIdeal.nD Cert.OutprojRefIdeal.τ).loc Cert.OutprojRefIdeal.main_arg11) = m' ((c.tc : Thread Cert.OutprojRefIdeal.nD Cert.OutprojRefIdeal.τ).loc Cert.OutprojRefIdeal.main_arg11))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hInproj : Cert.Inproj.Facts) (hInprojIdeal : Cert.InprojIdeal.Facts) (hInprojRefIdeal : Cert.InprojRefIdeal.Facts) (hOutproj : Cert.Outproj.Facts) (hOutprojIdeal : Cert.OutprojIdeal.Facts) (hOutprojRefIdeal : Cert.OutprojRefIdeal.Facts) (hPre_finite_scores : Cert.Pre_finite_scores.Facts),
    quiescent_Attn (hAttn := hAttn)
    ∧ quiescent_AttnIdeal (hAttnIdeal := hAttnIdeal)
    ∧ quiescent_AttnIdeal_pre_finite_scores (hAttnIdeal := hAttnIdeal) (hPre_finite_scores := hPre_finite_scores)
    ∧ quiescent_AttnRefIdeal (hAttnRefIdeal := hAttnRefIdeal)
    ∧ quiescent_AttnRefIdeal_pre_finite_scores (hAttnRefIdeal := hAttnRefIdeal) (hPre_finite_scores := hPre_finite_scores)
    ∧ quiescent_Ffn (hFfn := hFfn)
    ∧ quiescent_FfnIdeal (hFfnIdeal := hFfnIdeal)
    ∧ quiescent_FfnRefIdeal (hFfnRefIdeal := hFfnRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ preserves_Attn_AttnIdeal
    ∧ algebraic_AttnIdeal_AttnRefIdeal_pre_finite_scores (hAttnIdeal := hAttnIdeal) (hAttnRefIdeal := hAttnRefIdeal) (hPre_finite_scores := hPre_finite_scores)
    ∧ preserves_Ffn_FfnIdeal
    ∧ algebraic_FfnIdeal_FfnRefIdeal (hFfnIdeal := hFfnIdeal) (hFfnRefIdeal := hFfnRefIdeal)
    ∧ preserves_Inproj_InprojIdeal
    ∧ algebraic_InprojIdeal_InprojRefIdeal (hInprojIdeal := hInprojIdeal) (hInprojRefIdeal := hInprojRefIdeal)
    ∧ preserves_Outproj_OutprojIdeal
    ∧ algebraic_OutprojIdeal_OutprojRefIdeal (hOutprojIdeal := hOutprojIdeal) (hOutprojRefIdeal := hOutprojRefIdeal)
-- ==== Pre_finite_scores.lean ====
abbrev S16384x14336 : Shape := ⟨2, ![16384, 14336]⟩
abbrev S16 : Shape := ⟨1, ![16]⟩
abbrev S16384x64 : Shape := ⟨2, ![16384, 64]⟩
abbrev S16384x2048 : Shape := ⟨2, ![16384, 2048]⟩
abbrev S16384x512 : Shape := ⟨2, ![16384, 512]⟩
abbrev S1x16 : Shape := ⟨2, ![1, 16]⟩
abbrev S16384x16 : Shape := ⟨2, ![16384, 16]⟩
abbrev S16384x2704 : Shape := ⟨2, ![16384, 2704]⟩
abbrev S_ : Shape := ⟨0, ![]⟩

class Facts : Prop where
  slices_S16384x14336_S16384x2048_0_0 : S16384x14336.Slices ![0, 0] S16384x2048
  bitsLt_bf16_f32 : FTy.bits .bf16 < FTy.bits .f32
  slices_S16384x14336_S16384x512_0_12288 : S16384x14336.Slices ![0, 12288] S16384x512
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  concatenates_S16384x2048_S16384x512_S16384x64_S16384x64_S16384x16_S16384x2704_d1 : Shape.Concatenates [S16384x2048, S16384x512, S16384x64, S16384x64, S16384x16] S16384x2704 1
  bcast_S_S16384x2704 : S_.BroadcastsInDim S16384x2704 (![] : Fin 0 → Fin S16384x2704.rank)

variable [Facts]

def fn {F : FTy → Type} [FloatOps F] (main_arg0 : FVec F S16384x14336 .bf16) (main_arg1 : FVec F S16 .f32) (main_arg2 : FVec F S16384x64 .f32) (main_arg3 : FVec F S16384x64 .f32) : IVec S16384x2704 1 :=
  let main_v0 : FVec F S16384x2048 .bf16 := (extractStridedSlice S16384x2048 ![0, 0] · slices_S16384x14336_S16384x2048_0_0) main_arg0
  let main_v1 : FVec F S16384x2048 .f32 := (extf .f32 · bitsLt_bf16_f32) main_v0
  let main_v2 : FVec F S16384x512 .bf16 := (extractStridedSlice S16384x512 ![0, 12288] · slices_S16384x14336_S16384x512_0_12288) main_arg0
  let main_v3 : FVec F S16384x512 .f32 := (extf .f32 · bitsLt_bf16_f32) main_v2
  let main_v4 : FVec F S1x16 .f32 := broadcastInDim S1x16 ![1] bcast_S16_S1x16_1 main_arg1
  let main_v5 : FVec F S16384x16 .f32 := broadcastInDim S16384x16 ![0, 1] bcast_S1x16_S16384x16_0_1 main_v4
  let main_v6 : FVec F S16384x2704 .f32 := concatenate S16384x2704 1 [⟨S16384x2048, main_v1⟩, ⟨S16384x512, main_v3⟩, ⟨S16384x64, main_arg2⟩, ⟨S16384x64, main_arg3⟩, ⟨S16384x16, main_v5⟩] concatenates_S16384x2048_S16384x512_S16384x64_S16384x64_S16384x16_S16384x2704_d1
  let main_v7 : FVec F S16384x2704 .f32 := Host.absf main_v6
  let main_cst : FVec F S_ .f32 := constant S_ .f32 0x7F800000#32
  let main_v8 : FVec F S16384x2704 .f32 := broadcastInDim S16384x2704 ![] bcast_S_S16384x2704 main_cst
  let main_v9 : IVec S16384x2704 1 := cmpf .olt main_v7 main_v8
  main_v9
-- ==== Attn.lean ====
abbrev S16384x14336 : Shape := ⟨2, ![16384, 14336]⟩
abbrev S16 : Shape := ⟨1, ![16]⟩
abbrev S16384x64 : Shape := ⟨2, ![16384, 64]⟩
abbrev S16384x128 : Shape := ⟨2, ![16384, 128]⟩
abbrev S16384x2048 : Shape := ⟨2, ![16384, 2048]⟩
abbrev S512x2048 : Shape := ⟨2, ![512, 2048]⟩
abbrev S128x512 : Shape := ⟨2, ![128, 512]⟩
abbrev S512x512 : Shape := ⟨2, ![512, 512]⟩
abbrev S512x128 : Shape := ⟨2, ![512, 128]⟩
abbrev S128x128 : Shape := ⟨2, ![128, 128]⟩
abbrev S128x384 : Shape := ⟨2, ![128, 384]⟩
abbrev S512x1 : Shape := ⟨2, ![512, 1]⟩
abbrev S768x128 : Shape := ⟨2, ![768, 128]⟩
abbrev S1 : Shape := ⟨1, ![1]⟩
abbrev S512x384 : Shape := ⟨2, ![512, 384]⟩
abbrev S384x128 : Shape := ⟨2, ![384, 128]⟩
abbrev S512 : Shape := ⟨1, ![512]⟩

abbrev nBuf : Space → Nat
  | .hbm => 8
  | .vmem => 30
  | .smem => 1
  | _ => 0

abbrev bufTy : (tb : Table) → Fin (tcTables nBuf tb) → BufTy
  | .hbm, ⟨0, _⟩ => ⟨S16384x14336, .bf16⟩
  | .hbm, ⟨1, _⟩ => ⟨S16, .f32⟩
  | .hbm, ⟨2, _⟩ => ⟨S16384x64, .f32⟩
  | .hbm, ⟨3, _⟩ => ⟨S16384x64, .f32⟩
  | .hbm, ⟨4, _⟩ => ⟨S16384x128, .f32⟩
  | .hbm, ⟨5, _⟩ => ⟨S16384x64, .f32⟩
  | .hbm, ⟨6, _⟩ => ⟨S16384x128, .f32⟩
  | .hbm, ⟨7, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S128x512, .bf16⟩
  | .local _ .vmem, ⟨3, _⟩ => ⟨S128x512, .bf16⟩
  | .local _ .vmem, ⟨4, _⟩ => ⟨S512x512, .bf16⟩
  | .local _ .vmem, ⟨5, _⟩ => ⟨S512x512, .bf16⟩
  | .local _ .vmem, ⟨6, _⟩ => ⟨S128x512, .bf16⟩
  | .local _ .vmem, ⟨7, _⟩ => ⟨S128x512, .bf16⟩
  | .local _ .vmem, ⟨8, _⟩ => ⟨S128x512, .bf16⟩
  | .local _ .vmem, ⟨9, _⟩ => ⟨S128x512, .bf16⟩
  | .local _ .vmem, ⟨10, _⟩ => ⟨S512x512, .bf16⟩
  | .local _ .vmem, ⟨11, _⟩ => ⟨S512x512, .bf16⟩
  | .local _ .vmem, ⟨12, _⟩ => ⟨S128x512, .bf16⟩
  | .local _ .vmem, ⟨13, _⟩ => ⟨S128x512, .bf16⟩
  | .local _ .vmem, ⟨14, _⟩ => ⟨S512x2048, .bf16⟩
  | .local _ .vmem, ⟨15, _⟩ => ⟨S512x2048, .bf16⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S128x128, .f32⟩
  | .local _ .vmem, ⟨25, _⟩ => ⟨S128x128, .f32⟩
  | .local _ .vmem, ⟨26, _⟩ => ⟨S128x128, .f32⟩
  | .local _ .vmem, ⟨27, _⟩ => ⟨S128x128, .f32⟩
  | .local _ .vmem, ⟨28, _⟩ => ⟨S512x2048, .bf16⟩
  | .local _ .vmem, ⟨29, _⟩ => ⟨S512x2048, .bf16⟩
  | .local _ .smem, ⟨0, _⟩ => ⟨S16, .f32⟩
  | _, _ => ⟨S16384x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c24_i32 : BitVec 32 := 24#32
  let c0_i32_0 : BitVec 32 := 0#32
  ![v2.toNat, c24_i32.toNat]

def cc0_transform_3 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c127_i32 : BitVec 32 := 127#32
  let v2 : BitVec 32 := Scalar.minsi v1 c127_i32
  let c24_i32 : BitVec 32 := 24#32
  let c0_i32 : BitVec 32 := 0#32
  ![v2.toNat, c24_i32.toNat]

def cc0_transform_5 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c25_i32 : BitVec 32 := 25#32
  let c0_i32_0 : BitVec 32 := 0#32
  ![v2.toNat, c25_i32.toNat]

def cc0_transform_6 (i : grid0.Coords) : Fin 2 → Nat :=
  let arg0 : BitVec 32 := BitVec.ofNat 32 (i 0).val
  let c25_i32 : BitVec 32 := 25#32
  let c0_i32 : BitVec 32 := 0#32
  ![arg0.toNat, c25_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c127_i32 : BitVec 32 := 127#32
  let v2 : BitVec 32 := Scalar.minsi v1 c127_i32
  let c25_i32 : BitVec 32 := 25#32
  let c0_i32 : BitVec 32 := 0#32
  ![v2.toNat, c25_i32.toNat]

def cc0_transform_8 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_12 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_13 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_14 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== AttnIdeal.lean ====
variable {F : FTy → Type} [FloatOps F] [Named F]
def κ : String → Option EReal := fun
  | "mask" => some ⊥
  | _ => none
-- ==== AttnRefIdeal.lean ====
abbrev S16384x14336 : Shape := ⟨2, ![16384, 14336]⟩
abbrev S16 : Shape := ⟨1, ![16]⟩
abbrev S16384x64 : Shape := ⟨2, ![16384, 64]⟩
abbrev S16384x2048 : Shape := ⟨2, ![16384, 2048]⟩
abbrev S16384x512 : Shape := ⟨2, ![16384, 512]⟩
abbrev S16384x4x4x128 : Shape := ⟨4, ![16384, 4, 4, 128]⟩
abbrev S16384x1x1x64 : Shape := ⟨4, ![16384, 1, 1, 64]⟩
abbrev S16384x4x4x64 : Shape := ⟨4, ![16384, 4, 4, 64]⟩
abbrev S16384x4x128 : Shape := ⟨3, ![16384, 4, 128]⟩
abbrev S16384x1x64 : Shape := ⟨3, ![16384, 1, 64]⟩
abbrev S16384x4x64 : Shape := ⟨3, ![16384, 4, 64]⟩
abbrev S128x128x4x4x128 : Shape := ⟨5, ![128, 128, 4, 4, 128]⟩
abbrev S_ : Shape := ⟨0, ![]⟩
abbrev S16640x4x128 : Shape := ⟨3, ![16640, 4, 128]⟩
abbrev S130x128x4x128 : Shape := ⟨4, ![130, 128, 4, 128]⟩
abbrev S128x128x4x128 : Shape := ⟨4, ![128, 128, 4, 128]⟩
abbrev S128x384x4x128 : Shape := ⟨4, ![128, 384, 4, 128]⟩
abbrev S128x4x384x128x4 : Shape := ⟨5, ![128, 4, 384, 128, 4]⟩
abbrev S128x4x4x128x384 : Shape := ⟨5, ![128, 4, 4, 128, 384]⟩
abbrev S128 : Shape := ⟨1, ![128]⟩
abbrev S128x1 : Shape := ⟨2, ![128, 1]⟩
abbrev S384 : Shape := ⟨1, ![384]⟩
abbrev S1x384 : Shape := ⟨2, ![1, 384]⟩
abbrev S128x384 : Shape := ⟨2, ![128, 384]⟩
abbrev S1x128x384 : Shape := ⟨3, ![1, 128, 384]⟩
abbrev S128x1x384 : Shape := ⟨3, ![128, 1, 384]⟩
abbrev S128x128x384 : Shape := ⟨3, ![128, 128, 384]⟩
abbrev S128x1x1x128x384 : Shape := ⟨5, ![128, 1, 1, 128, 384]⟩
abbrev S4x4 : Shape := ⟨2, ![4, 4]⟩
abbrev S1x4x4x1x1 : Shape := ⟨5, ![1, 4, 4, 1, 1]⟩
abbrev S128x4x4x128x1 : Shape := ⟨5, ![128, 4, 4, 128, 1]⟩
abbrev S128x4x4x128x385 : Shape := ⟨5, ![128, 4, 4, 128, 385]⟩
abbrev S128x4x4x128 : Shape := ⟨4, ![128, 4, 4, 128]⟩
abbrev S128x4x128x4x128 : Shape := ⟨5, ![128, 4, 128, 4, 128]⟩

abbrev nBuf : Space → Nat
  | .hbm => 141
  | .vmem => 0
  | .smem => 0
  | _ => 0

abbrev hbmTy0_0 (i : Nat) : BufTy := match i % 128 with
  | 0 => ⟨S16384x14336, .bf16⟩
  | 1 => ⟨S16, .f32⟩
  | 2 => ⟨S16384x64, .f32⟩
  | 3 => ⟨S16384x64, .f32⟩
  | 4 => ⟨S16384x14336, .f32⟩
  | 5 => ⟨S16384x2048, .f32⟩
  | 6 => ⟨S16384x2048, .f32⟩
  | 7 => ⟨S16384x512, .f32⟩
  | 8 => ⟨S16384x512, .f32⟩
  | 9 => ⟨S16384x4x4x128, .f32⟩
  | 10 => ⟨S16384x1x1x64, .f32⟩
  | 11 => ⟨S16384x1x1x64, .f32⟩
  | 12 => ⟨S16384x4x4x64, .f32⟩
  | 13 => ⟨S16384x4x4x64, .f32⟩
  | 14 => ⟨S16384x4x4x64, .f32⟩
  | 15 => ⟨S16384x4x4x64, .f32⟩
  | 16 => ⟨S16384x4x4x64, .f32⟩
  | 17 => ⟨S16384x4x4x64, .f32⟩
  | 18 => ⟨S16384x4x4x64, .f32⟩
  | 19 => ⟨S16384x4x4x64, .f32⟩
  | 20 => ⟨S16384x4x4x64, .f32⟩
  | 21 => ⟨S16384x4x4x64, .f32⟩
  | 22 => ⟨S16384x4x4x64, .f32⟩
  | 23 => ⟨S16384x4x4x64, .f32⟩
  | 24 => ⟨S16384x4x4x128, .f32⟩
  | 25 => ⟨S16384x4x128, .f32⟩
  | 26 => ⟨S16384x1x64, .f32⟩
  | 27 => ⟨S16384x1x64, .f32⟩
  | 28 => ⟨S16384x4x64, .f32⟩
  | 29 => ⟨S16384x4x64, .f32⟩
  | 30 => ⟨S16384x4x64, .f32⟩
  | 31 => ⟨S16384x4x64, .f32⟩
  | 32 => ⟨S16384x4x64, .f32⟩
  | 33 => ⟨S16384x4x64, .f32⟩
  | 34 => ⟨S16384x4x64, .f32⟩
  | 35 => ⟨S16384x4x64, .f32⟩
  | 36 => ⟨S16384x4x64, .f32⟩
  | 37 => ⟨S16384x4x64, .f32⟩
  | 38 => ⟨S16384x4x64, .f32⟩
  | 39 => ⟨S16384x4x64, .f32⟩
  | 40 => ⟨S16384x4x128, .f32⟩
  | 41 => ⟨S16384x4x128, .f32⟩
  | 42 => ⟨S128x128x4x4x128, .f32⟩
  | 43 => ⟨S_, .i32⟩
  | 44 => ⟨S_, .f32⟩
  | 45 => ⟨S16640x4x128, .f32⟩
  | 46 => ⟨S130x128x4x128, .f32⟩
  | 47 => ⟨S128x128x4x128, .f32⟩
  | 48 => ⟨S128x128x4x128, .f32⟩
  | 49 => ⟨S128x128x4x128, .f32⟩
  | 50 => ⟨S128x384x4x128, .f32⟩
  | 51 => ⟨S_, .i32⟩
  | 52 => ⟨S_, .f32⟩
  | 53 => ⟨S16640x4x128, .f32⟩
  | 54 => ⟨S130x128x4x128, .f32⟩
  | 55 => ⟨S128x128x4x128, .f32⟩
  | 56 => ⟨S128x128x4x128, .f32⟩
  | 57 => ⟨S128x128x4x128, .f32⟩
  | 58 => ⟨S128x384x4x128, .f32⟩
  | 59 => ⟨S128x4x384x128x4, .f32⟩
  | 60 => ⟨S128x4x4x128x384, .f32⟩
  | 61 => ⟨S_, .f32⟩
  | 62 => ⟨S128x4x4x128x384, .f32⟩
  | 63 => ⟨S128x4x4x128x384, .f32⟩
  | 64 => ⟨S128, .i32⟩
  | 65 => ⟨S128x1, .i32⟩
  | 66 => ⟨S384, .i32⟩
  | 67 => ⟨S1x384, .i32⟩
  | 68 => ⟨S_, .i32⟩
  | 69 => ⟨S1x384, .i32⟩
  | 70 => ⟨S1x384, .i32⟩
  | 71 => ⟨S128x384, .i32⟩
  | 72 => ⟨S128x384, .i32⟩
  | 73 => ⟨S128x384, .i32⟩
  | 74 => ⟨S128x384, .i32⟩
  | 75 => ⟨S_, .i32⟩
  | 76 => ⟨S128x384, .i32⟩
  | 77 => ⟨S128x384, .i1⟩
  | 78 => ⟨S128, .i32⟩
  | 79 => ⟨S128x1, .i32⟩
  | 80 => ⟨S_, .i32⟩
  | 81 => ⟨S128x1, .i32⟩
  | 82 => ⟨S128x1, .i32⟩
  | 83 => ⟨S_, .i32⟩
  | 84 => ⟨S128x1, .i32⟩
  | 85 => ⟨S128x1, .i32⟩
  | 86 => ⟨S384, .i32⟩
  | 87 => ⟨S1x384, .i32⟩
  | 88 => ⟨S128x384, .i32⟩
  | 89 => ⟨S128x384, .i32⟩
  | 90 => ⟨S128x384, .i32⟩
  | 91 => ⟨S_, .i32⟩
  | 92 => ⟨S128x384, .i32⟩
  | 93 => ⟨S128x384, .i1⟩
  | 94 => ⟨S_, .i32⟩
  | 95 => ⟨S128x384, .i32⟩
  | 96 => ⟨S128x384, .i1⟩
  | 97 => ⟨S128x384, .i1⟩
  | 98 => ⟨S1x128x384, .i1⟩
  | 99 => ⟨S128x1x384, .i1⟩
  | 100 => ⟨S128x128x384, .i1⟩
  | 101 => ⟨S128x128x384, .i1⟩
  | 102 => ⟨S128x128x384, .i1⟩
  | 103 => ⟨S128x1x1x128x384, .i1⟩
  | 104 => ⟨S_, .f32⟩
  | 105 => ⟨S_, .f32⟩
  | 106 => ⟨S128x4x4x128x384, .i1⟩
  | 107 => ⟨S128x4x4x128x384, .f32⟩
  | 108 => ⟨S128x4x4x128x384, .f32⟩
  | 109 => ⟨S4x4, .f32⟩
  | 110 => ⟨S1x4x4x1x1, .f32⟩
  | 111 => ⟨S128x4x4x128x1, .f32⟩
  | 112 => ⟨S128x4x4x128x385, .f32⟩
  | 113 => ⟨S_, .f32⟩
  | 114 => ⟨S128x4x4x128, .f32⟩
  | 115 => ⟨S_, .f32⟩
  | 116 => ⟨S128x4x4x128, .f32⟩
  | 117 => ⟨S128x4x4x128, .f32⟩
  | 118 => ⟨S128x4x4x128x1, .f32⟩
  | 119 => ⟨S128x4x4x128x385, .f32⟩
  | 120 => ⟨S128x4x4x128x385, .f32⟩
  | 121 => ⟨S128x4x4x128x385, .f32⟩
  | 122 => ⟨S_, .f32⟩
  | 123 => ⟨S128x4x4x128, .f32⟩
  | 124 => ⟨S128x4x4x128x1, .f32⟩
  | 125 => ⟨S128x4x4x128x385, .f32⟩
  | 126 => ⟨S128x4x4x128x385, .f32⟩
  | 127 => ⟨S128x4x4x128x384, .f32⟩
  | _ => ⟨S16384x14336, .bf16⟩

abbrev hbmTy0_1 (i : Nat) : BufTy := match i % 128 with
  | 0 => ⟨S128x4x128x4x128, .f32⟩
  | 1 => ⟨S128x128x4x4x128, .f32⟩
  | 2 => ⟨S16384x2048, .f32⟩
  | 3 => ⟨S16384x2048, .f32⟩
  | 4 => ⟨S16384x2048, .f32⟩
  | 5 => ⟨S_, .f32⟩
  | 6 => ⟨S16384x2048, .f32⟩
  | 7 => ⟨S16384x2048, .f32⟩
  | 8 => ⟨S_, .f32⟩
  | 9 => ⟨S16384x2048, .f32⟩
  | 10 => ⟨S16384x2048, .f32⟩
  | 11 => ⟨S16384x2048, .f32⟩
  | 12 => ⟨S16384x2048, .bf16⟩
  | _ => ⟨S16384x14336, .bf16⟩

abbrev hbmTy (i : Nat) : BufTy := match i / 128 with
  | 0 => hbmTy0_0 i
  | 1 => hbmTy0_1 i
  | _ => ⟨S16384x14336, .bf16⟩

abbrev bufTy : (tb : Table) → Fin (tcTables nBuf tb) → BufTy
  | .hbm, ⟨i, _⟩ => hbmTy i
  | _, _ => ⟨S16384x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_c : Ref sig .tc := ⟨.hbm, 43, rfl⟩
abbrev main_call0_v0 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_c_0 : Ref sig .tc := ⟨.hbm, 51, rfl⟩
abbrev main_call1_v0 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_cst : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_c_1 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_c_2 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_c_3 : Ref sig .tc := ⟨.hbm, 80, rfl⟩
abbrev main_v69 : Ref sig .tc := ⟨.hbm, 81, rfl⟩
abbrev main_v70 : Ref sig .tc := ⟨.hbm, 82, rfl⟩
abbrev main_c_4 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_c_5 : Ref sig .tc := ⟨.hbm, 91, rfl⟩
abbrev main_v78 : Ref sig .tc := ⟨.hbm, 92, rfl⟩
abbrev main_v79 : Ref sig .tc := ⟨.hbm, 93, rfl⟩
abbrev main_c_6 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_cst_7 : Ref sig .tc := ⟨.hbm, 104, rfl⟩
abbrev main_call2_v0 : Ref sig .tc := ⟨.hbm, 105, rfl⟩
abbrev main_call2_v1 : Ref sig .tc := ⟨.hbm, 106, rfl⟩
abbrev main_call2_v2 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_cst_8 : Ref sig .tc := ⟨.hbm, 113, rfl⟩
abbrev main_v94 : Ref sig .tc := ⟨.hbm, 114, rfl⟩
abbrev main_cst_9 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_cst_10 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_cst_11 : Ref sig .tc := ⟨.hbm, 133, rfl⟩
abbrev main_v111 : Ref sig .tc := ⟨.hbm, 134, rfl⟩
abbrev main_v112 : Ref sig .tc := ⟨.hbm, 135, rfl⟩
abbrev main_cst_12 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩

abbrev nD : Nat := 1
abbrev τ : Topo := Topo.v7x

variable {F : FTy → Type} [FloatOps F]
-- ==== Ffn.lean ====
abbrev S16384x2048 : Shape := ⟨2, ![16384, 2048]⟩
abbrev S2048x8192 : Shape := ⟨2, ![2048, 8192]⟩
abbrev S8192x2048 : Shape := ⟨2, ![8192, 2048]⟩
abbrev S1x2048 : Shape := ⟨2, ![1, 2048]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 9
  | .smem => 0
  | _ => 0

abbrev bufTy : (tb : Table) → Fin (tcTables nBuf tb) → BufTy
  | .hbm, ⟨0, _⟩ => ⟨S16384x2048, .bf16⟩
  | .hbm, ⟨1, _⟩ => ⟨S2048x8192, .bf16⟩
  | .hbm, ⟨2, _⟩ => ⟨S8192x2048, .bf16⟩
  | .hbm, ⟨3, _⟩ => ⟨S16384x2048, .f32⟩
  | .hbm, ⟨4, _⟩ => ⟨S1x2048, .f32⟩
  | .hbm, ⟨5, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | .local _ .vmem, ⟨7, _⟩ => ⟨S1x2048, .f32⟩
  | .local _ .vmem, ⟨8, _⟩ => ⟨S1024x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== FfnRefIdeal.lean ====
abbrev S16384x2048 : Shape := ⟨2, ![16384, 2048]⟩
abbrev S2048x8192 : Shape := ⟨2, ![2048, 8192]⟩
abbrev S8192x2048 : Shape := ⟨2, ![8192, 2048]⟩
abbrev S1x2048 : Shape := ⟨2, ![1, 2048]⟩
abbrev S16384x8192 : Shape := ⟨2, ![16384, 8192]⟩
abbrev S_ : Shape := ⟨0, ![]⟩
abbrev S16384 : Shape := ⟨1, ![16384]⟩
abbrev S16384x1 : Shape := ⟨2, ![16384, 1]⟩

abbrev nBuf : Space → Nat
  | .hbm => 30
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x8192, .bf16⟩
  | .hbm, ⟨2, _⟩ => ⟨S8192x2048, .bf16⟩
  | .hbm, ⟨3, _⟩ => ⟨S16384x2048, .f32⟩
  | .hbm, ⟨4, _⟩ => ⟨S1x2048, .f32⟩
  | .hbm, ⟨5, _⟩ => ⟨S16384x2048, .f32⟩
  | .hbm, ⟨6, _⟩ => ⟨S2048x8192, .f32⟩
  | .hbm, ⟨7, _⟩ => ⟨S8192x2048, .f32⟩
  | .hbm, ⟨8, _⟩ => ⟨S16384x8192, .f32⟩
  | .hbm, ⟨9, _⟩ => ⟨S_, .f32⟩
  | .hbm, ⟨10, _⟩ => ⟨S16384x8192, .f32⟩
  | .hbm, ⟨11, _⟩ => ⟨S16384x8192, .f32⟩
  | .hbm, ⟨12, _⟩ => ⟨S16384x8192, .f32⟩
  | .hbm, ⟨13, _⟩ => ⟨S16384x2048, .f32⟩
  | .hbm, ⟨14, _⟩ => ⟨S16384x2048, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== Inproj.lean ====
abbrev S16384x2048 : Shape := ⟨2, ![16384, 2048]⟩
abbrev S1x2048 : Shape := ⟨2, ![1, 2048]⟩
abbrev S2048x14336 : Shape := ⟨2, ![2048, 14336]⟩
abbrev S16384x14336 : Shape := ⟨2, ![16384, 14336]⟩
abbrev S1024x2048 : Shape := ⟨2, ![1024, 2048]⟩
abbrev S2048x2048 : Shape := ⟨2, ![2048, 2048]⟩
abbrev S1024 : Shape := ⟨1, ![1024]⟩
abbrev S1024x1 : Shape := ⟨2, ![1024, 1]⟩

abbrev nBuf : Space → Nat
  | .hbm => 4
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x14336, .bf16⟩
  | .hbm, ⟨3, _⟩ => ⟨S16384x14336, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InprojRefIdeal.lean ====
abbrev S16384x2048 : Shape := ⟨2, ![16384, 2048]⟩
abbrev S1x2048 : Shape := ⟨2, ![1, 2048]⟩
abbrev S2048x14336 : Shape := ⟨2, ![2048, 14336]⟩
abbrev S_ : Shape := ⟨0, ![]⟩
abbrev S16384 : Shape := ⟨1, ![16384]⟩
abbrev S16384x1 : Shape := ⟨2, ![16384, 1]⟩
abbrev S16384x14336 : Shape := ⟨2, ![16384, 14336]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x14336, .bf16⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S2048x14336, .f32⟩
  | .hbm, ⟨19, _⟩ => ⟨S16384x14336, .f32⟩
  | .hbm, ⟨20, _⟩ => ⟨S16384x14336, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Outproj.lean ====
abbrev S16384x2048 : Shape := ⟨2, ![16384, 2048]⟩
abbrev S16384x14336 : Shape := ⟨2, ![16384, 14336]⟩
abbrev S1x2048 : Shape := ⟨2, ![1, 2048]⟩
abbrev S2048x2048 : Shape := ⟨2, ![2048, 2048]⟩
abbrev S128x128 : Shape := ⟨2, ![128, 128]⟩
abbrev S256x2048 : Shape := ⟨2, ![256, 2048]⟩
abbrev S256x128 : Shape := ⟨2, ![256, 128]⟩
abbrev S1x128 : Shape := ⟨2, ![1, 128]⟩
abbrev S256 : Shape := ⟨1, ![256]⟩
abbrev S256x1 : Shape := ⟨2, ![256, 1]⟩

abbrev nBuf : Space → Nat
  | .hbm => 15
  | .vmem => 25
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x2048, .bf16⟩
  | .hbm, ⟨3, _⟩ => ⟨S16384x2048, .bf16⟩
  | .hbm, ⟨4, _⟩ => ⟨S16384x2048, .bf16⟩
  | .hbm, ⟨5, _⟩ => ⟨S16384x14336, .bf16⟩
  | .hbm, ⟨6, _⟩ => ⟨S1x2048, .f32⟩
  | .hbm, ⟨7, _⟩ => ⟨S1x2048, .f32⟩
  | .hbm, ⟨8, _⟩ => ⟨S2048x2048, .bf16⟩
  | .hbm, ⟨9, _⟩ => ⟨S16384x2048, .f32⟩
  | .hbm, ⟨10, _⟩ => ⟨S1x2048, .f32⟩
  | .hbm, ⟨11, _⟩ => ⟨S1x2048, .f32⟩
  | .hbm, ⟨12, _⟩ => ⟨S128x128, .bf16⟩
  | .hbm, ⟨13, _⟩ => ⟨S16384x2048, .f32⟩
  | .hbm, ⟨14, _⟩ => ⟨S16384x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S1x2048, .f32⟩
  | .local _ .vmem, ⟨13, _⟩ => ⟨S1x2048, .f32⟩
  | .local _ .vmem, ⟨14, _⟩ => ⟨S128x128, .bf16⟩
  | .local _ .vmem, ⟨15, _⟩ => ⟨S2048x2048, .bf16⟩
  | .local _ .vmem, ⟨16, _⟩ => ⟨S256x2048, .f32⟩
  | .local _ .vmem, ⟨17, _⟩ => ⟨S256x2048, .f32⟩
  | .local _ .vmem, ⟨18, _⟩ => ⟨S1x2048, .f32⟩
  | .local _ .vmem, ⟨19, _⟩ => ⟨S1x2048, .f32⟩
  | .local _ .vmem, ⟨20, _⟩ => ⟨S256x2048, .f32⟩
  | .local _ .vmem, ⟨21, _⟩ => ⟨S256x2048, .f32⟩
  | .local _ .vmem, ⟨22, _⟩ => ⟨S256x2048, .bf16⟩
  | .local _ .vmem, ⟨23, _⟩ => ⟨S256x2048, .bf16⟩
  | .local _ .vmem, ⟨24, _⟩ => ⟨S256x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0_0 : Ref sig .tc := ⟨.hbm, 13, rfl⟩
abbrev main_v0_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== OutprojRefIdeal.lean ====
abbrev S16384x2048 : Shape := ⟨2, ![16384, 2048]⟩
abbrev S16384x14336 : Shape := ⟨2, ![16384, 14336]⟩
abbrev S1x2048 : Shape := ⟨2, ![1, 2048]⟩
abbrev S2048x2048 : Shape := ⟨2, ![2048, 2048]⟩
abbrev S16384x32x64 : Shape := ⟨3, ![16384, 32, 64]⟩
abbrev S_ : Shape := ⟨0, ![]⟩
abbrev S16384x32 : Shape := ⟨2, ![16384, 32]⟩
abbrev S16384x32x1 : Shape := ⟨3, ![16384, 32, 1]⟩
abbrev S16384 : Shape := ⟨1, ![16384]⟩
abbrev S16384x1 : Shape := ⟨2, ![16384, 1]⟩

abbrev nBuf : Space → Nat
  | .hbm => 93
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x2048, .bf16⟩
  | .hbm, ⟨3, _⟩ => ⟨S16384x2048, .bf16⟩
  | .hbm, ⟨4, _⟩ => ⟨S16384x2048, .bf16⟩
  | .hbm, ⟨5, _⟩ => ⟨S16384x14336, .bf16⟩
  | .hbm, ⟨6, _⟩ => ⟨S1x2048, .f32⟩
  | .hbm, ⟨7, _⟩ => ⟨S1x2048, .f32⟩
  | .hbm, ⟨8, _⟩ => ⟨S2048x2048, .bf16⟩
  | .hbm, ⟨9, _⟩ => ⟨S16384x2048, .f32⟩
  | .hbm, ⟨10, _⟩ => ⟨S1x2048, .f32⟩
  | .hbm, ⟨11, _⟩ => ⟨S1x2048, .f32⟩
  | .hbm, ⟨12, _⟩ => ⟨S16384x2048, .f32⟩
  | .hbm, ⟨13, _⟩ => ⟨S16384x32x64, .f32⟩
  | .hbm, ⟨14, _⟩ => ⟨S_, .f32⟩
  | .hbm, ⟨15, _⟩ => ⟨S16384x32, .f32⟩
  | .hbm, ⟨16, _⟩ => ⟨S16384x32x1, .f32⟩
  | .hbm, ⟨17, _⟩ => ⟨S_, .f32⟩
  | .hbm, ⟨18, _⟩ => ⟨S16384x32x1, .f32⟩
  | .hbm, ⟨19, _⟩ => ⟨S16384x32x1, .f32⟩
  | .hbm, ⟨20, _⟩ => ⟨S16384x32x64, .f32⟩
  | .hbm, ⟨21, _⟩ => ⟨S16384x32x64, .f32⟩
  | .hbm, ⟨22, _⟩ => ⟨S16384x32x64, .f32⟩
  | .hbm, ⟨23, _⟩ => ⟨S_, .f32⟩
  | .hbm, ⟨24, _⟩ => ⟨S16384x32, .f32⟩
  | .hbm, ⟨25, _⟩ => ⟨S16384x32x1, .f32⟩
  | .hbm, ⟨26, _⟩ => ⟨S_, .f32⟩
  | .hbm, ⟨27, _⟩ => ⟨S16384x32x1, .f32⟩
  | .hbm, ⟨28, _⟩ => ⟨S16384x32x1, .f32⟩
  | .hbm, ⟨29, _⟩ => ⟨S16384x32x64, .f32⟩
  | .hbm, ⟨30, _⟩ => ⟨S16384x32x64, .f32⟩
  | .hbm, ⟨31, _⟩ => ⟨S_, .f32⟩
  | .hbm, ⟨32, _⟩ => ⟨S16384x32x1, .f32⟩
  | .hbm, ⟨33, _⟩ => ⟨S16384x32x1, .f32⟩
  | .hbm, ⟨34, _⟩ => ⟨S16384x32x1, .f32⟩
  | .hbm, ⟨35, _⟩ => ⟨S16384x32x64, .f32⟩
  | .hbm, ⟨36, _⟩ => ⟨S16384x32x64, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S16384x2048, .f32⟩
  | .hbm, ⟨42, _⟩ => ⟨S16384x2048, .f32⟩
  | .hbm, ⟨43, _⟩ => ⟨S16384x2048, .f32⟩
  | .hbm, ⟨44, _⟩ => ⟨S16384x2048, .f32⟩
  | .hbm, ⟨45, _⟩ => ⟨S16384x2048, .f32⟩
  | .hbm, ⟨46, _⟩ => ⟨S16384x2048, .bf16⟩
  | .hbm, ⟨47, _⟩ => ⟨S16384x2048, .f32⟩
  | .hbm, ⟨48, _⟩ => ⟨S16384x2048, .f32⟩
  | .hbm, ⟨49, _⟩ => ⟨S16384x2048, .f32⟩
  | .hbm, ⟨50, _⟩ => ⟨S16384x2048, .f32⟩
  | .hbm, ⟨51, _⟩ => ⟨S_, .f32⟩
  | .hbm, ⟨52, _⟩ => ⟨S16384x2048, .f32⟩
  | .hbm, ⟨53, _⟩ => ⟨S16384x2048, .f32⟩
  | .hbm, ⟨54, _⟩ => ⟨S_, .f32⟩
  | .hbm, ⟨55, _⟩ => ⟨S16384x2048, .f32⟩
  | .hbm, ⟨56, _⟩ => ⟨S16384x2048, .f32⟩
  | .hbm, ⟨57, _⟩ => ⟨S16384x2048, .f32⟩
  | .hbm, ⟨58, _⟩ => ⟨S16384x2048, .f32⟩
  | .hbm, ⟨59, _⟩ => ⟨S2048x2048, .f32⟩
  | .hbm, ⟨60, _⟩ => ⟨S16384x2048, .f32⟩
  | .hbm, ⟨61, _⟩ => ⟨S16384x2048, .f32⟩
  | .hbm, ⟨62, _⟩ => ⟨S_, .f32⟩
  | .hbm, ⟨63, _⟩ => ⟨S16384, .f32⟩
  | .hbm, ⟨64, _⟩ => ⟨S16384x1, .f32⟩
  | .hbm, ⟨65, _⟩ => ⟨S_, .f32⟩
  | .hbm, ⟨66, _⟩ => ⟨S16384x1, .f32⟩
  | .hbm, ⟨67, _⟩ => ⟨S16384x1, .f32⟩
  | .hbm, ⟨68, _⟩ => ⟨S_, .f32⟩
  | .hbm, ⟨69, _⟩ => ⟨S16384x1, .f32⟩
  | .hbm, ⟨70, _⟩ => ⟨S16384x1, .f32⟩
  | .hbm, ⟨71, _⟩ => ⟨S16384x1, .f32⟩
  | .hbm, ⟨72, _⟩ => ⟨S16384x2048, .f32⟩
  | .hbm, ⟨73, _⟩ => ⟨S16384x2048, .f32⟩
  | .hbm, ⟨74, _⟩ => ⟨S16384x2048, .f32⟩
  | .hbm, ⟨75, _⟩ => ⟨S16384x2048, .f32⟩
  | .hbm, ⟨76, _⟩ => ⟨S16384x2048, .f32⟩
  | .hbm, ⟨77, _⟩ => ⟨S16384x2048, .f32⟩
  | .hbm, ⟨78, _⟩ => ⟨S_, .f32⟩
  | .hbm, ⟨79, _⟩ => ⟨S16384, .f32⟩
  | .hbm, ⟨80, _⟩ => ⟨S16384x1, .f32⟩
  | .hbm, ⟨81, _⟩ => ⟨S_, .f32⟩
  | .hbm, ⟨82, _⟩ => ⟨S16384x1, .f32⟩
  | .hbm, ⟨83, _⟩ => ⟨S16384x1, .f32⟩
  | .hbm, ⟨84, _⟩ => ⟨S_, .f32⟩
  | .hbm, ⟨85, _⟩ => ⟨S16384x1, .f32⟩
  | .hbm, ⟨86, _⟩ => ⟨S16384x1, .f32⟩
  | .hbm, ⟨87, _⟩ => ⟨S16384x1, .f32⟩
  | .hbm, ⟨88, _⟩ => ⟨S16384x2048, .f32⟩
  | .hbm, ⟨89, _⟩ => ⟨S16384x2048, .f32⟩
  | .hbm, ⟨90, _⟩ => ⟨S16384x2048, .f32⟩
  | .hbm, ⟨91, _⟩ => ⟨S16384x2048, .f32⟩
  | .hbm, ⟨92, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_4 : Ref sig .tc := ⟨.hbm, 51, rfl⟩
abbrev main_v34 : Ref sig .tc := ⟨.hbm, 52, rfl⟩
abbrev main_v35 : Ref sig .tc := ⟨.hbm, 53, rfl⟩
abbrev main_cst_5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_6 : Ref sig .tc := ⟨.hbm, 62, rfl⟩
abbrev main_v43 : Ref sig .tc := ⟨.hbm, 63, rfl⟩
abbrev main_v44 : Ref sig .tc := ⟨.hbm, 64, rfl⟩
abbrev main_cst_7 : Ref sig .tc := ⟨.hbm, 65, rfl⟩
abbrev main_v45 : Ref sig .tc := ⟨.hbm, 66, rfl⟩
abbrev main_v46 : Ref sig .tc := ⟨.hbm, 67, rfl⟩
abbrev main_cst_8 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_9 : Ref sig .tc := ⟨.hbm, 78, rfl⟩
abbrev main_v56 : Ref sig .tc := ⟨.hbm, 79, rfl⟩
abbrev main_v57 : Ref sig .tc := ⟨.hbm, 80, rfl⟩
abbrev main_cst_10 : Ref sig .tc := ⟨.hbm, 81, rfl⟩
abbrev main_v58 : Ref sig .tc := ⟨.hbm, 82, rfl⟩
abbrev main_v59 : Ref sig .tc := ⟨.hbm, 83, rfl⟩
abbrev main_cst_11 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩

abbrev nD : Nat := 1
abbrev τ : Topo := Topo.v7x

variable {F : FTy → Type} [FloatOps F]
-- ==== Proof.Frames.lean ====
/- The frames of the four calls' programs and references, and the replaced mask constant. -/
module

public import proofs.«01_k».proof.Defs
public import proofs.«01_k».proof.Proof.Gen.Attn.Frame
public import proofs.«01_k».proof.Proof.Gen.AttnIdeal.Frame
public import proofs.«01_k».proof.Proof.Gen.AttnRefIdeal.Run
public import proofs.«01_k».proof.Proof.Gen.Ffn.Frame
public import proofs.«01_k».proof.Proof.Gen.FfnIdeal.Frame
public import proofs.«01_k».proof.Proof.Gen.FfnRefIdeal.Run
public import proofs.«01_k».proof.Proof.Gen.Inproj.Frame
public import proofs.«01_k».proof.Proof.Gen.InprojIdeal.Frame
public import proofs.«01_k».proof.Proof.Gen.InprojRefIdeal.Run
public import proofs.«01_k».proof.Proof.Gen.Outproj.Frame
public import proofs.«01_k».proof.Proof.Gen.OutprojIdeal.Frame
public import proofs.«01_k».proof.Proof.Gen.OutprojRefIdeal.Run
public import Idealize.ShloMosaic.Adequacy
public import Idealize.ShloMosaic.Init

@[expose] public section

noncomputable section

namespace Cert.Proof

open Idealize.ShloMosaic Idealize.SL.Sem

/-- The attention terminates in every execution and leaves its arguments as they were. -/
theorem frame_attn : Cert.quiescent_Attn (hAttn := Cert.Attn.Gen.facts) := fun m ρ _ => Cert.Attn.Gen.frame m ρ

/-- The attention with the mask read as minus infinity does so over the reals too. -/
theorem frame_attn_ideal : Cert.quiescent_AttnIdeal (hAttnIdeal := Cert.AttnIdeal.Gen.facts) := fun m ρ _ => Cert.AttnIdeal.Gen.frame m ρ

/-- The attention's reference terminates and leaves its arguments as they were. -/
theorem frame_attn_ref : Cert.quiescent_AttnRefIdeal (hAttnRefIdeal := Cert.AttnRefIdeal.Gen.facts) := by
  intro m g _
  run_from Cert.AttnRefIdeal.Value.run m g
  all_goals first | exact sem_eq_zero_of_no_sems (by decide) _ | (intro c; simp)

/-- The feed-forward call's frame. -/
theorem frame_ffn : Cert.quiescent_Ffn (hFfn := Cert.Ffn.Gen.facts) := fun m ρ _ => Cert.Ffn.Gen.frame m ρ

/-- The feed-forward call's frame over the reals. -/
theorem frame_ffn_ideal : Cert.quiescent_FfnIdeal (hFfnIdeal := Cert.FfnIdeal.Gen.facts) := fun m ρ _ => Cert.FfnIdeal.Gen.frame m ρ

/-- The feed-forward reference's frame. -/
theorem frame_ffn_ref : Cert.quiescent_FfnRefIdeal (hFfnRefIdeal := Cert.FfnRefIdeal.Gen.facts) := by
  intro m g _
  run_from Cert.FfnRefIdeal.Value.run m g
  all_goals first | exact sem_eq_zero_of_no_sems (by decide) _ | (intro c; simp)

/-- The input projection's frame. -/
theorem frame_inproj : Cert.quiescent_Inproj (hInproj := Cert.Inproj.Gen.facts) := fun m ρ _ => Cert.Inproj.Gen.frame m ρ

/-- The input projection's frame over the reals. -/
theorem frame_inproj_ideal : Cert.quiescent_InprojIdeal (hInprojIdeal := Cert.InprojIdeal.Gen.facts) := fun m ρ _ => Cert.InprojIdeal.Gen.frame m ρ

/-- The input projection reference's frame. -/
theorem frame_inproj_ref : Cert.quiescent_InprojRefIdeal (hInprojRefIdeal := Cert.InprojRefIdeal.Gen.facts) := by
  intro m g _
  run_from Cert.InprojRefIdeal.Value.run m g
  all_goals first | exact sem_eq_zero_of_no_sems (by decide) _ | (intro c; simp)

/-- The output projection's frame. -/
theorem frame_outproj : Cert.quiescent_Outproj (hOutproj := Cert.Outproj.Gen.facts) := fun m ρ _ => Cert.Outproj.Gen.frame m ρ

/-- The output projection's frame over the reals. -/
theorem frame_outproj_ideal : Cert.quiescent_OutprojIdeal (hOutprojIdeal := Cert.OutprojIdeal.Gen.facts) := fun m ρ _ => Cert.OutprojIdeal.Gen.frame m ρ

/-- The output projection reference's frame. -/
theorem frame_outproj_ref : Cert.quiescent_OutprojRefIdeal (hOutprojRefIdeal := Cert.OutprojRefIdeal.Gen.facts) := by
  intro m g _
  run_from Cert.OutprojRefIdeal.Value.run m g
  all_goals first | exact sem_eq_zero_of_no_sems (by decide) _ | (intro c; simp)

/-- The one replaced constant is the mask, named with the value minus infinity. -/
theorem preserves_attn : Cert.preserves_Attn_AttnIdeal := IdealRules.named_const.statement Cert.AttnIdeal.κ "mask" .f32 0xF149F2CA#32 ⊥ rfl

end Cert.Proof

end
-- ==== Proof.FfnValue.lean ====
/- The feed-forward call: its accumulated blocks are the reference's two whole products and its norm. -/
module

public import proofs.«01_k».proof.Defs
public import proofs.«01_k».proof.Proof.Gen.FfnIdeal.Value
public import proofs.«01_k».proof.Proof.Gen.FfnRefIdeal.Run
public import Idealize.ShloMosaic.Lib.Pipeline.ValueKit
public import Idealize.ShloMosaic.Lib.Pointwise
public import Idealize.ShloMosaic.Lib.Claim

@[expose] public section

set_option maxRecDepth 16384

noncomputable section

namespace Cert.FfnRefIdeal.Value

open Cert.FfnRefIdeal Cert.FfnRefIdeal.Gen Idealize.ShloMosaic Idealize.ShloMosaic.TcCoe

/-- The reference's hidden units: the squared positive part of the first product. -/
def HID (hn : FVec Ideal S16384x2048 .bf16) (wu : FVec Ideal S2048x8192 .bf16) : FVec Ideal S16384x8192 .f32 :=
  mulf (maximumf (Host.dotGeneral dot_S16384x2048_S2048x8192_S16384x8192_1_0_0_1_n_n none (extf .f32 hn bitsLt_bf16_f32) (extf .f32 wu bitsLt_bf16_f32)) (broadcastInDim S16384x8192 ![] bcast_S_S16384x8192 (constant S_ .f32 0x00000000#32))) (maximumf (Host.dotGeneral dot_S16384x2048_S2048x8192_S16384x8192_1_0_0_1_n_n none (extf .f32 hn bitsLt_bf16_f32) (extf .f32 wu bitsLt_bf16_f32)) (broadcastInDim S16384x8192 ![] bcast_S_S16384x8192 (constant S_ .f32 0x00000000#32)))

/-- The reference's second product. -/
def OUT (hn : FVec Ideal S16384x2048 .bf16) (wu : FVec Ideal S2048x8192 .bf16) (wd : FVec Ideal S8192x2048 .bf16) : FVec Ideal S16384x2048 .f32 :=
  Host.dotGeneral dot_S16384x8192_S8192x2048_S16384x2048_1_0_0_1_n_n none (HID hn wu) (extf .f32 wd bitsLt_bf16_f32)

/-- The reference's root-mean-square norm added to the residual. -/
def NORM (x h : FVec Ideal S16384x2048 .f32) (g : FVec Ideal S1x2048 .f32) : FVec Ideal S16384x2048 .f32 :=
  addf h (mulf (mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 g))

end Cert.FfnRefIdeal.Value

namespace Cert.FfnIdeal.Value

open Cert.FfnIdeal Cert.FfnIdeal.Gen
open Idealize.ShloMosaic Idealize.ShloMosaic.TcCoe Idealize.SL.Sem
open Idealize.ShloMosaic.Pipeline (Dat)

/-- The squared positive part of entry `(R, f)` of the first product. -/
def act (hn : FVec Ideal S16384x2048 .bf16) (wu : FVec Ideal Cert.FfnRefIdeal.S2048x8192 .bf16) (R : Fin 16384) (f : Fin 8192) : EReal :=
  max (∑ k : Fin 2048, hn (ix2 R k) * wu (ix2 k f)) 0 * max (∑ k : Fin 2048, hn (ix2 R k) * wu (ix2 k f)) 0

/-- Entry `(R, l)` of the second product. -/
def ff (hn : FVec Ideal S16384x2048 .bf16) (wu : FVec Ideal Cert.FfnRefIdeal.S2048x8192 .bf16)
    (wd : FVec Ideal Cert.FfnRefIdeal.S8192x2048 .bf16) (R : Fin 16384) (l : Fin 2048) : EReal :=
  ∑ f : Fin 8192, act hn wu R f * wd (ix2 f l)

/-- What one grid point adds to the block: its slice of the hidden units, summed. -/
def part (v3 : FVec Ideal S1024x2048 .bf16) (v4 : FVec Ideal S2048x1024 .bf16) (v12 : FVec Ideal S1024x2048 .bf16)
    (r : Fin 1024) (l : Fin 2048) : EReal :=
  ∑ t : Fin 1024, (max (∑ k : Fin 2048, v3 (ix2 r k) * v4 (ix2 k t)) 0 * max (∑ k : Fin 2048, v3 (ix2 r k) * v4 (ix2 k t)) 0) * v12 (ix2 t l)

/-- The accumulating payload at an index: the block before plus this point's part. -/
theorem pay2_at (v3 : FVec Ideal S1024x2048 .bf16) (v4 : FVec Ideal S2048x1024 .bf16) (v10 : FVec Ideal S1024x2048 .f32) (v12 : FVec Ideal S1024x2048 .bf16)
    (r : Fin 1024) (l : Fin 2048) : k0_pay2 v3 v4 v10 v12 (ix2 r l) = v10 (ix2 r l) + part v3 v4 v12 r l := by
  unfold part
  pointwise! [k0_pay2]

/-- The block a run has accumulated after its eight points, at an index. -/
def parts (m : (ℓ : Loc nD τ sig) → Buf (Elt Ideal) ℓ) (c : Dev nD) (n : ℕ) (i : S1024x2048.Idx) : EReal :=
  if h : n < cfg0.N then part (iblk m c 0 ⟨n, h⟩) (iblk m c 1 ⟨n, h⟩) (iblk m c 2 ⟨n, h⟩) (i 0) (i 1) else 0

theorem acc_at (m : (ℓ : Loc nD τ sig) → Buf (Elt Ideal) ℓ) (c : Dev nD) (q : ℕ) (h : 8 * q + 6 < cfg0.N) (i : S1024x2048.Idx) :
    Pipeline.accAt (reset5 m c) (step5 m c) (8 * q) 6 h i = ∑ s ∈ Finset.range 7, parts m c (8 * q + s) i := by
  have := Pipeline.accAt_add_apply (reset5 m c) (step5 m c) (fun _ => (0 : EReal)) (parts m c) (8 * q) 6
    (fun h i => by
      idx_vars i
      unfold parts
      rw [dif_pos h]
      unfold reset5
      refine (pay2_at _ _ _ _ i0 i1).trans ?_
      congr 1
      pointwise [k0_pay1])
    (fun n h acc i hb he => by
      idx_vars i
      unfold parts
      rw [dif_pos h]
      unfold step5
      rw [if_pos (by omega)]
      exact pay2_at _ _ _ _ i0 i1) 6 le_rfl h i
  rw [this, zero_add]

/-- The last payload at an index: the residual plus the norm of the accumulated block. -/
theorem pay3_at (v19 v20 : FVec Ideal S1024x2048 .f32) (v22 : FVec Ideal S1x2048 .f32) (r : Fin 1024) (l : Fin 2048) :
    k0_pay3 v19 v20 v22 (ix2 r l) = v19 (ix2 r l) + v20 (ix2 r l) * Ideal.rsqrt (Ideal.div (∑ k : Fin 2048, v20 (ix2 r k) * v20 (ix2 r k)) (Ideal.ofBits .f32 0x45000000#32) + Ideal.ofBits .f32 0x358637BD#32) * v22 (ix2 0 l) := by
  pointwise! [k0_pay3]

open Cert.FfnRefIdeal.Value in
/-- The reference's norm at an index. -/
theorem norm_at (x h : FVec Ideal S16384x2048 .f32) (g : FVec Ideal S1x2048 .f32) (r : Fin 16384) (l : Fin 2048) :
    NORM x h g (ix2 r l) = h (ix2 r l) + x (ix2 r l) * Ideal.rsqrt (Ideal.div (∑ k : Fin 2048, x (ix2 r k) * x (ix2 r k)) (Ideal.ofBits .f32 0x45000000#32) + Ideal.ofBits .f32 0x358637BD#32) * g (ix2 0 l) := by
  pointwise! [NORM]

open Cert.FfnRefIdeal.Value in
/-- The reference's second product at an index. -/
theorem out_at (hn : FVec Ideal S16384x2048 .bf16) (wu : FVec Ideal Cert.FfnRefIdeal.S2048x8192 .bf16)
    (wd : FVec Ideal Cert.FfnRefIdeal.S8192x2048 .bf16) (r : Fin 16384) (l : Fin 2048) :
    OUT hn wu wd (ix2 r l) = ff hn wu wd r l := by
  unfold ff act
  pointwise! [OUT, HID]

/-- The windows' block indices. -/
theorem idx : ∀ t : Fin cfg0.N, win0_0.index t = ![t.val / 8, 0] ∧ win0_1.index t = ![0, t.val % 8] ∧ win0_2.index t = ![t.val % 8, 0]
    ∧ win0_3.index t = ![t.val / 8, 0] ∧ win0_4.index t = ![0, 0] :=
  (by decide +kernel : ∀ t : Fin grid0.N, _)

/-- The run of a row block and the step in it, as coordinates of a hidden unit and a row. -/
theorem part_at (m : (ℓ : Loc nD τ sig) → Buf (Elt Ideal) ℓ) (c : Dev nD) (q : Fin 16) (s : Fin 8) (i : S1024x2048.Idx) :
    parts m c (8 * q.val + s.val) i = ∑ t : Fin 1024, act (m ((c : Thread nD τ).loc main_arg0)) (m ((c : Thread nD τ).loc main_arg1)) ⟨q.val * 1024 + (i 0).val, by have := (i 0).isLt; have : (i 0).val < 1024 := this; omega⟩ ⟨s.val * 1024 + t.val, by omega⟩
      * (m ((c : Thread nD τ).loc main_arg2) : FVec Ideal Cert.FfnRefIdeal.S8192x2048 .bf16) (ix2 ⟨s.val * 1024 + t.val, by omega⟩ (i 1)) := by
  have hN : 8 * q.val + s.val < cfg0.N := by have : cfg0.N = 128 := N_0; omega
  unfold parts
  rw [dif_pos hN]
  have h1 : (8 * q.val + s.val) / 8 = q.val := by omega
  have h2 : (8 * q.val + s.val) % 8 = s.val := by omega
  unfold part act
  refine Finset.sum_congr rfl fun t _ => ?_
  blk_point [iblk, V, idx ⟨8 * q.val + s.val, hN⟩, h1, h2]

/-- The array the call leaves is the reference's result. -/
theorem final (m : (ℓ : Loc nD τ sig) → Buf (Elt Ideal) ℓ) (c : Dev nD) :
    G5 m c = Cert.FfnRefIdeal.Value.NORM (Cert.FfnRefIdeal.Value.OUT (m ((c : Thread nD τ).loc main_arg0)) (m ((c : Thread nD τ).loc main_arg1)) (m ((c : Thread nD τ).loc main_arg2)))
      (m ((c : Thread nD τ).loc main_arg3)) (m ((c : Thread nD τ).loc main_arg4)) := by
  funext i
  idx_vars i
  have hN : cfg0.N = 128 := N_0
  have hq : i0.val / 1024 < 16 := by omega
  have hrun : run5Of (ix2 i0 i1 : S16384x2048.Idx) = i0.val / 1024 := by
    show 1 * (i0.val / 1024 - 0) + 1 * (i1.val / 2048 - 0) = _
    omega
  have hT : 8 * (i0.val / 1024) + 7 < cfg0.N := by omega
  have hloc : loc5Of (ix2 i0 i1 : S16384x2048.Idx) = ix2 (⟨i0.val % 1024, by omega⟩ : Fin 1024) i1 := by
    funext a
    match a with
    | ⟨0, _⟩ => rfl
    | ⟨1, _⟩ => exact Fin.ext (Nat.mod_eq_of_lt i1.isLt)
  have hacc : ∀ (k : Fin 2048), k0_pay2 (iblk m c 0 ⟨8 * (i0.val / 1024) + 7, hT⟩) (iblk m c 1 ⟨8 * (i0.val / 1024) + 7, hT⟩)
      (Pipeline.accAt (reset5 m c) (step5 m c) (8 * (i0.val / 1024)) 6 (by omega)) (iblk m c 2 ⟨8 * (i0.val / 1024) + 7, hT⟩) (ix2 (⟨i0.val % 1024, by omega⟩ : Fin 1024) k)
      = ff (m ((c : Thread nD τ).loc main_arg0)) (m ((c : Thread nD τ).loc main_arg1)) (m ((c : Thread nD τ).loc main_arg2)) i0 k := by
    intro k
    refine (pay2_at _ _ _ _ _ k).trans ?_
    rw [acc_at]
    have e7 : part (iblk m c 0 ⟨8 * (i0.val / 1024) + 7, hT⟩) (iblk m c 1 ⟨8 * (i0.val / 1024) + 7, hT⟩) (iblk m c 2 ⟨8 * (i0.val / 1024) + 7, hT⟩)
        (⟨i0.val % 1024, by omega⟩ : Fin 1024) k = parts m c (8 * (i0.val / 1024) + 7) (ix2 (⟨i0.val % 1024, by omega⟩ : Fin 1024) k) := by
      unfold parts
      rw [dif_pos hT]
      rfl
    rw [e7, ← Finset.sum_range_succ (fun s => parts m c (8 * (i0.val / 1024) + s) (ix2 (⟨i0.val % 1024, by omega⟩ : Fin 1024) k)) 7,
      Finset.sum_range]
    unfold ff
    rw [Fin.sum_univ_tiles 8 1024 rfl]
    refine Finset.sum_congr rfl fun s _ => ?_
    refine (part_at m c ⟨i0.val / 1024, hq⟩ s _).trans ?_
    refine Finset.sum_congr rfl fun t _ => ?_
    have : (⟨i0.val / 1024 * 1024 + i0.val % 1024, by omega⟩ : Fin 16384) = i0 := Fin.ext (Nat.div_add_mod' _ _)
    show act _ _ ⟨i0.val / 1024 * 1024 + i0.val % 1024, _⟩ _ * _ = _
    rw [this]
    rfl
  unfold G5
  rw [dif_pos (by rw [hrun]; exact hT)]
  have e : ∀ (b j : ℕ) (h : b + j < cfg0.N) (b' j' : ℕ) (h' : b' + j' < cfg0.N), b = b' → j = j' →
      Pipeline.accAt (reset5 m c) (step5 m c) b j h = Pipeline.accAt (reset5 m c) (step5 m c) b' j' h' := by
    intro b j h b' j' h' hb hj; subst hb; subst hj; rfl
  rw [e _ 7 _ (8 * (i0.val / 1024)) 7 hT (by rw [hrun]) rfl, hloc, Pipeline.accAt_succ]
  have hs : ∀ acc : FVec Ideal S1024x2048 .f32, step5 m c (8 * (i0.val / 1024) + 7) hT acc = k0_pay3 (F := Ideal) (iblk m c 3 ⟨8 * (i0.val / 1024) + 7, hT⟩)
      (k0_pay2 (iblk m c 0 ⟨8 * (i0.val / 1024) + 7, hT⟩) (iblk m c 1 ⟨8 * (i0.val / 1024) + 7, hT⟩) acc (iblk m c 2 ⟨8 * (i0.val / 1024) + 7, hT⟩))
      (iblk m c 4 ⟨8 * (i0.val / 1024) + 7, hT⟩) := by
    intro acc
    unfold step5
    rw [if_neg (by omega), if_pos (by omega)]
  refine (congrFun (hs _) _).trans ?_
  refine (pay3_at _ _ _ _ i1).trans ?_
  rw [norm_at]
  simp only [out_at, hacc]
  have h1 : (8 * (i0.val / 1024) + 7) / 8 = i0.val / 1024 := by omega
  blk_point [iblk, V, idx ⟨8 * (i0.val / 1024) + 7, hT⟩, h1]

end Cert.FfnIdeal.Value

namespace Cert.Proof

open Idealize.ShloMosaic Idealize.SL.Sem

/-- The feed-forward call computes the reference's squared-ReLU feed-forward with its norm and residual. -/
theorem algebraic_ffn : Cert.algebraic_FfnIdeal_FfnRefIdeal (hFfnIdeal := Cert.FfnIdeal.Gen.facts) (hFfnRefIdeal := Cert.FfnRefIdeal.Gen.facts) := by
  pair_intro
  · run_from Cert.FfnIdeal.Value.run m g
  · run_from Cert.FfnRefIdeal.Value.run m' g'
    exact (Cert.FfnIdeal.Value.final m c).symm

end Cert.Proof

end
-- ==== Proof.InprojValue.lean ====
/- The input projection: every block of the output is the normalised rows times a column tile of the weights. -/
module

public import proofs.«01_k».proof.Defs
public import proofs.«01_k».proof.Proof.Gen.InprojIdeal.Value
public import proofs.«01_k».proof.Proof.Gen.InprojRefIdeal.Run
public import Idealize.ShloMosaic.Lib.Pipeline.ValueKit

@[expose] public section

set_option maxRecDepth 16384

noncomputable section

namespace Cert.InprojRefIdeal.Value

open Cert.InprojRefIdeal Cert.InprojRefIdeal.Gen Idealize.ShloMosaic Idealize.ShloMosaic.TcCoe Idealize.SL.Sem Idealize.ShloMosaic.StableHlo

/-- The reference: the RMS norm of the rows, times the weights. -/
def PROJ (x : FVec Ideal S16384x2048 .f32) (g : FVec Ideal S1x2048 .f32) (w : FVec Ideal S2048x14336 .bf16) : FVec Ideal S16384x14336 .bf16 :=
  truncf .bf16 (Host.dotGeneral dot_S16384x2048_S2048x14336_S16384x14336_1_0_0_1_n_n none (mulf (mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 g)) (extf .f32 w bitsLt_bf16_f32)) bitsLt_bf16_f32

end Cert.InprojRefIdeal.Value

namespace Cert.InprojIdeal.Value

open Cert.InprojIdeal Cert.InprojIdeal.Gen Idealize.ShloMosaic Idealize.ShloMosaic.TcCoe Idealize.SL.Sem Idealize.ShloMosaic.Pipeline

/-- Entry `k` of a row `f` after the RMS norm with gain `g`. -/
def normed (f g : Fin 2048 → EReal) (k : Fin 2048) : EReal :=
  f k * Ideal.rsqrt (Ideal.div (∑ l : Fin 2048, f l * f l) (Ideal.ofBits .f32 0x45000000#32) + Ideal.ofBits .f32 0x358637BD#32) * g k

/-- The norm's payload at an index. -/
theorem pay1_at (x : FVec Ideal S1024x2048 .f32) (g : FVec Ideal S1x2048 .f32) (r : Fin 1024) (k : Fin 2048) :
    k0_pay1 (F := Ideal) x g (ix2 r k) = normed (fun l => x (ix2 r l)) (fun l => g (ix2 0 l)) k := by
  pointwise! [k0_pay1, normed]

/-- The product's payload at an index. -/
theorem pay2_at (x : FVec Ideal S1024x2048 .bf16) (w : FVec Ideal S2048x2048 .bf16) (r : Fin 1024) (l : Fin 2048) :
    k0_pay2 (F := Ideal) x w (ix2 r l) = ∑ k : Fin 2048, x (ix2 r k) * w (ix2 k l) := by
  pointwise! [k0_pay2]

open Cert.InprojRefIdeal.Value in
/-- The reference at an index. -/
theorem proj_at (x : FVec Ideal S16384x2048 .f32) (g : FVec Ideal S1x2048 .f32) (w : FVec Ideal S2048x14336 .bf16) (r : Fin 16384) (l : Fin 14336) :
    PROJ x g w (ix2 r l) = ∑ k : Fin 2048, normed (fun l => x (ix2 r l)) (fun l => g (ix2 0 l)) k * w (ix2 k l) := by
  pointwise! [PROJ, normed]

/-- The blocks a grid point reads and writes. -/
theorem idx : ∀ t : Fin cfg0.N, win0_0.index t = ![t.val / 7, 0] ∧ win0_1.index t = ![0, 0] ∧ win0_2.index t = ![0, t.val % 7]
    ∧ win0_3.index t = ![t.val / 7, t.val % 7] :=
  (by decide +kernel : ∀ t : Fin grid0.N, _)

/-- The scratch after a grid point: the normalised rows of the point's row block. -/
def XN (m : (ℓ : Loc nD τ sig) → Buf (Elt Ideal) ℓ) (c : Dev nD) (t : Fin cfg0.N) : FVec Ideal S1024x2048 .bf16 :=
  k0_pay1 (F := Ideal) (iblk m c 0 t) (iblk m c 1 t)

/-- Two points of one row block read the same rows, so they have the same normalised rows. -/
theorem xn_congr (m : (ℓ : Loc nD τ sig) → Buf (Elt Ideal) ℓ) (c : Dev nD) (t t' : Fin cfg0.N) (h : t.val / 7 = t'.val / 7) : XN m c t = XN m c t' := by
  have e0 : (iblk m c 0 t : FVec Ideal S1024x2048 .f32) = iblk m c 0 t' := by
    funext y
    blk_ext [iblk, V, idx t, idx t', h]
  have e1 : (iblk m c 1 t : FVec Ideal S1x2048 .f32) = iblk m c 1 t' := by
    funext y
    blk_ext [iblk, V, idx t, idx t']
  unfold XN
  rw [e0, e1]

/-- At the first column tile the scratch takes the norm of the rows read there. -/
theorem sc_A (m : (ℓ : Loc nD τ sig) → Buf (Elt Ideal) ℓ) (c : Dev nD) (t : Fin cfg0.N) (h : t.val % 7 = 0) : (outsAt0 m c t.val t.isLt).2 = XN m c t := by
  rw [outsAt0_A m c t h]
  frame_out
  rfl

/-- The scratch holds the normalised rows of the point's row block after every point. -/
theorem sc_eq (m : (ℓ : Loc nD τ sig) → Buf (Elt Ideal) ℓ) (c : Dev nD) : ∀ (n : ℕ) (h : n < cfg0.N), (outsAt0 m c n h).2 = XN m c ⟨n, h⟩ := by
  intro n
  induction n with
  | zero => exact fun h => sc_A m c ⟨0, h⟩ rfl
  | succ n ih =>
    intro h
    by_cases h0 : (n + 1) % 7 = 0
    · exact sc_A m c ⟨n + 1, h⟩ h0
    · rw [outsAt0_B m c ⟨n + 1, h⟩ h0]
      dsimp only [sout0_B_0]
      exact (ih _).trans (xn_congr m c _ _ (by show n / 7 = (n + 1) / 7; omega))

/-- What a point writes: the normalised rows times its tile of the weights. -/
theorem out_eq (m : (ℓ : Loc nD τ sig) → Buf (Elt Ideal) ℓ) (c : Dev nD) (t : Fin cfg0.N) :
    (outsAt0 m c t.val t.isLt).1 = k0_pay2 (F := Ideal) (XN m c t) (iblk m c 2 t) := by
  by_cases h0 : t.val % 7 = 0
  · rw [outsAt0_A m c t h0]
    frame_out
    rfl
  · obtain ⟨n, hn⟩ := t
    cases n with
    | zero => exact absurd rfl h0
    | succ n =>
      rw [outsAt0_B m c ⟨n + 1, hn⟩ h0]
      dsimp only
      rw [show ∀ h, (outsAt0 m c (n + 1 - 1) h).2 = XN m c ⟨n, h⟩ from fun h => sc_eq m c n h, xn_congr m c ⟨n, Nat.lt_of_succ_lt hn⟩ ⟨n + 1, hn⟩ (by show n / 7 = (n + 1) / 7; have : (n + 1) % 7 ≠ 0 := h0; omega)]
      frame_out
      exact congrArg (fun x => k0_pay2 (F := Ideal) x (iblk m c 2 ⟨n + 1, hn⟩)) (Memref.IsWhole.read_unread (Memref.isWhole_whole cc0_scratch0) _)

/-- The array the call leaves is the reference's result. -/
theorem final (m : (ℓ : Loc nD τ sig) → Buf (Elt Ideal) ℓ) (c : Dev nD) :
    (dats m 0 c).arrAt 3 cfg0.N = Cert.InprojRefIdeal.Value.PROJ (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, out_eq]
  idx_vars y
  refine (pay2_at _ _ _ _).trans ?_
  have ht : t.val < 112 := lt_of_lt_of_eq t.isLt N_0
  obtain_idx j : Cert.InprojRefIdeal.S16384x14336 := [t.val / 7 * 1024 + y0.val, t.val % 7 * 2048 + y1.val] with hj
  refine Eq.trans (b := Cert.InprojRefIdeal.Value.PROJ (m ((c : Thread nD τ).loc main_arg0)) (m ((c : Thread nD τ).loc main_arg1)) (m ((c : Thread nD τ).loc main_arg2)) j) ?_ ?_
  · idx_vars j
    rw [proj_at]
    unfold XN
    refine Finset.sum_congr rfl fun k _ => congrArg₂ (· * ·) ((pay1_at _ _ _ k).trans ?_) ?_
    · exact congrArg₂ (fun f g => normed f g k) (funext fun l => by blk_ext [iblk, V, idx t]) (funext fun l => by blk_ext [iblk, V, idx t])
    · blk_ext [iblk, V, idx t]
  · blk_ext [idx t]

end Cert.InprojIdeal.Value

namespace Cert.Proof

open Idealize.ShloMosaic Idealize.SL.Sem

/-- The input projection computes the reference's norm and product. -/
theorem algebraic_inproj : Cert.algebraic_InprojIdeal_InprojRefIdeal (hInprojIdeal := Cert.InprojIdeal.Gen.facts) (hInprojRefIdeal := Cert.InprojRefIdeal.Gen.facts) := by
  pair_intro
  · run_from Cert.InprojIdeal.Value.run m g
  · run_from Cert.InprojRefIdeal.Value.run m' g'
    exact ((Cert.InprojIdeal.Value.final3 m c).symm.trans (Cert.InprojIdeal.Value.final m c)).symm

end Cert.Proof
-- ==== Proof.M.Softmax.lean ====
module

public import Idealize.ShloMosaic.Lib.Claim
public import Idealize.ShloMosaic.PureOps.Ideal

@[expose] public section

noncomputable section

open Idealize.ShloMosaic

namespace Cert.M

/-- A nonnegative real factor comes out of a finite sum of extended reals. -/
theorem sum_mul_real {ι : Type*} (s : Finset ι) (f : ι → EReal) (r : ℝ) (hr : 0 ≤ r) :
    ∑ i ∈ s, f i * (r : EReal) = (∑ i ∈ s, f i) * (r : EReal) := by
  classical
  induction s using Finset.induction_on with
  | empty => simp
  | insert a s ha ih =>
    rw [Finset.sum_insert ha, Finset.sum_insert ha, ih,
      EReal.right_distrib_of_nonneg_of_ne_top (EReal.coe_nonneg.mpr hr) (EReal.coe_ne_top r)]

/-- The exponential of an extended real is nonnegative. -/
theorem exp_nonneg (x : EReal) : 0 ≤ Ideal.exp x := by
  induction x with
  | bot => exact le_refl _
  | top => exact le_top
  | coe r => exact EReal.coe_nonneg.mpr (Real.exp_pos r).le

/-- The exponential of anything but the top is a real number. -/
theorem exp_real (x : EReal) (hx : x ≠ ⊤) : ∃ r : ℝ, 0 ≤ r ∧ Ideal.exp x = r := by
  induction x with
  | bot => exact ⟨0, le_refl _, rfl⟩
  | top => exact absurd rfl hx
  | coe r => exact ⟨Real.exp r, (Real.exp_pos r).le, rfl⟩

/-- A finite sum of nonnegative real numbers, taken in the extended reals, is a nonnegative real. -/
theorem sum_real {ι : Type*} (s : Finset ι) (f : ι → EReal)
    (hf : ∀ i, ∃ r : ℝ, 0 ≤ r ∧ f i = r) : ∃ r : ℝ, 0 ≤ r ∧ ∑ i ∈ s, f i = r := by
  classical
  induction s using Finset.induction_on with
  | empty => exact ⟨0, le_refl _, by simp⟩
  | insert a s ha ih =>
    obtain ⟨r, hr, h⟩ := ih
    obtain ⟨q, hq, h'⟩ := hf a
    exact ⟨q + r, add_nonneg hq hr, by rw [Finset.sum_insert ha, h, h', EReal.coe_add]⟩

/-- A softmax with one extra finite logit `σ`: dividing the weighted sum by the denominator equals the
    weighted sum of the divided terms, when the maximum is a real number. -/
theorem softmax_div {ι : Type*} (s : Finset ι) (S v : ι → EReal) (M σ : ℝ)
    (hS : ∀ i, S i ≠ ⊤) :
    Ideal.div (∑ i ∈ s, Ideal.exp (S i - M) * v i) (∑ i ∈ s, Ideal.exp (S i - M) + Ideal.exp ((σ : EReal) - M))
      = ∑ i ∈ s, Ideal.div (Ideal.exp (S i - M))
          (∑ i ∈ s, Ideal.exp (S i - M) + Ideal.exp ((σ : EReal) - M)) * v i := by
  obtain ⟨d, hd, hde⟩ := sum_real s (fun i => Ideal.exp (S i - M)) (fun i => exp_real _ (by
    have := hS i
    induction h : S i with
    | bot => simp
    | top => exact absurd h this
    | coe r => rw [← EReal.coe_sub]; exact EReal.coe_ne_top _))
  have hσ : Ideal.exp ((σ : EReal) - M) = ((Real.exp (σ - M) : ℝ) : EReal) := by
    rw [← EReal.coe_sub]; rfl
  have hpos : 0 < d + Real.exp (σ - M) := add_pos_of_nonneg_of_pos hd (Real.exp_pos _)
  rw [hde, hσ, ← EReal.coe_add]
  have hdiv : ∀ x : EReal, Ideal.div x ((d + Real.exp (σ - M) : ℝ) : EReal)
      = x * (((d + Real.exp (σ - M))⁻¹ : ℝ) : EReal) := fun x => by
    unfold Ideal.div
    rw [if_neg (fun h => hpos.ne' (EReal.coe_eq_zero.mp h)), EReal.coe_inv]
  rw [hdiv, ← sum_mul_real _ _ _ (inv_nonneg.mpr hpos.le)]
  refine Finset.sum_congr rfl fun i _ => ?_
  rw [hdiv, mul_right_comm]

/-- The logistic function through the hyperbolic tangent, on all extended reals. -/
theorem logistic_eq (x : EReal) :
    ((1 / 2 : ℝ) : EReal) * Ideal.tanh (((1 / 2 : ℝ) : EReal) * x) + ((1 / 2 : ℝ) : EReal) = Ideal.logistic x := by
  induction x with
  | bot =>
    rw [EReal.coe_mul_bot_of_pos (by norm_num), Ideal.tanh_bot, Ideal.logistic_bot]
    rw [show (-1 : EReal) = ((-1 : ℝ) : EReal) by simp, ← EReal.coe_mul, ← EReal.coe_add]
    norm_num
  | top =>
    rw [EReal.coe_mul_top_of_pos (by norm_num), Ideal.tanh_top, Ideal.logistic_top]
    rw [show (1 : EReal) = ((1 : ℝ) : EReal) by simp, ← EReal.coe_mul, ← EReal.coe_add]
    norm_num
  | coe r =>
    rw [← EReal.coe_mul, Ideal.tanh_coe, Ideal.logistic_coe, ← EReal.coe_mul, ← EReal.coe_add, EReal.coe_eq_coe_iff]
    rw [Real.tanh_eq_sinh_div_cosh, Real.sinh_eq, Real.cosh_eq]
    have h1 : Real.exp (-(1 / 2 * r)) * Real.exp (-(1 / 2 * r)) = Real.exp (-r) := by
      rw [← Real.exp_add]; congr 1; ring
    have h2 : Real.exp (1 / 2 * r) * Real.exp (-(1 / 2 * r)) = 1 := by
      rw [← Real.exp_add]; simp
    have p1 := Real.exp_pos (1 / 2 * r)
    have p2 := Real.exp_pos (-(1 / 2 * r))
    rw [← h1]
    generalize Real.exp (1 / 2 * r) = a at *
    generalize Real.exp (-(1 / 2 * r)) = b at *
    have hab : a + b ≠ 0 := by positivity
    have hb : 1 + b * b ≠ 0 := by positivity
    field_simp
    nlinarith [h2]

end Cert.M

end
-- ==== Proof.OutprojRef.lean ====
/- The output projection's reference, read at an index: the group norm of the heads, the gated merge, the product with the weights and the two RMS norms. -/
module

public import proofs.«01_k».proof.Defs
public import proofs.«01_k».proof.Proof.Gen.OutprojRefIdeal.Run
public import proofs.«01_k».proof.Proof.M.Softmax
public import Idealize.ShloMosaic.Lib.Pipeline.ValueKit

@[expose] public section

set_option maxRecDepth 16384

noncomputable section

open Idealize.ShloMosaic

namespace Cert.M.Outproj

/-- The mean of the 64 entries of a head. -/
def mean (y : Fin 64 → EReal) : EReal := Ideal.div (∑ l : Fin 64, y l) (Ideal.ofBits .f32 0x42800000#32)

/-- Entry `l` of a head after the group norm. -/
def groupNorm (y : Fin 64 → EReal) (l : Fin 64) : EReal :=
  (y l - mean y) * Ideal.rsqrt (mean (fun k => (y k - mean y) * (y k - mean y)) + Ideal.ofBits .f32 0x3A27C5AC#32)

/-- The gated merge of the two mixers at one place: the normed value `n` with its gain and bias, the bonus, the gate `g` of the recurrence, the attention's value and the logits of the gate. -/
def merged (n gain bias bonus g att gate : EReal) : EReal :=
  att + Ideal.logistic gate * ((n * gain + bias + bonus) * g)

/-- Entry `k` of a row `f` after the RMS norm with gain `g`. -/
def normed (f g : Fin 2048 → EReal) (k : Fin 2048) : EReal :=
  f k * Ideal.rsqrt (Ideal.div (∑ l : Fin 2048, f l * f l) (Ideal.ofBits .f32 0x45000000#32) + Ideal.ofBits .f32 0x358637BD#32) * g k

/-- Entry `k` of a row of the first result: the row `x` plus the norm of the product of the merged row `a` with the weights. -/
def hid (a : Fin 2048 → EReal) (w : Fin 2048 → Fin 2048 → EReal) (x g : Fin 2048 → EReal) (k : Fin 2048) : EReal :=
  x k + normed (fun l => ∑ j : Fin 2048, a j * w j l) g k

end Cert.M.Outproj

namespace Cert.OutprojRefIdeal.Value

open Cert.OutprojRefIdeal Cert.OutprojRefIdeal.Gen Idealize.ShloMosaic.TcCoe Idealize.SL.Sem Idealize.ShloMosaic.StableHlo Cert.M.Outproj

/-- The heads' means, spread over the heads. -/
def MEAN (y : FVec Ideal S16384x32x64 .f32) : FVec Ideal S16384x32x1 .f32 :=
  Host.divf (broadcastInDim S16384x32x1 ![0, 1] bcast_S16384x32_S16384x32x1_0_1 (Host.reduceAdd y (constant S_ .f32 0x00000000#32) reducesTo_S16384x32x64_S16384x32_d2 h_S_)) (broadcastInDim S16384x32x1 ![] bcast_S_S16384x32x1 (constant S_ .f32 0x42800000#32))

/-- The entries less the mean of their head. -/
def DEV (y : FVec Ideal S16384x32x64 .f32) : FVec Ideal S16384x32x64 .f32 :=
  subf y (broadcastInDim S16384x32x64 ![0, 1, 2] bcast_S16384x32x1_S16384x32x64_0_1_2 (MEAN y))

/-- The group norm of the heads. -/
def GN (y : FVec Ideal S16384x32x64 .f32) : FVec Ideal S16384x32x64 .f32 :=
  mulf (DEV y) (broadcastInDim S16384x32x64 ![0, 1, 2] bcast_S16384x32x1_S16384x32x64_0_1_2 (Host.rsqrt (addf (MEAN (mulf (DEV y) (DEV y))) (broadcastInDim S16384x32x1 ![] bcast_S_S16384x32x1 (constant S_ .f32 0x3A27C5AC#32)))))

/-- The gated merge of the attention and the recurrence. -/
def MERGED (yf yb : FVec Ideal S16384x2048 .f32) (bonus g att : FVec Ideal S16384x2048 .bf16) (cols : FVec Ideal S16384x14336 .bf16) (gain bias : FVec Ideal S1x2048 .f32) : FVec Ideal S16384x2048 .f32 :=
  addf (extf .f32 att bitsLt_bf16_f32) (mulf (Host.divf (broadcastInDim S16384x2048 ![] bcast_S_S16384x2048 (constant S_ .f32 0x3F800000#32)) (addf (broadcastInDim S16384x2048 ![] bcast_S_S16384x2048 (constant S_ .f32 0x3F800000#32)) (Host.exp (Host.negf (extf .f32 (extractStridedSlice S16384x2048 ![0, 4096] cols slices_S16384x14336_S16384x2048_0_4096) bitsLt_bf16_f32))))) (mulf (addf (addf (mulf (shapeCast _ (GN (shapeCast _ (addf yf yb) shapeCasts_S16384x2048_S16384x32x64)) shapeCasts_S16384x32x64_S16384x2048) (broadcastInDim S16384x2048 ![0, 1] bcast_S1x2048_S16384x2048_0_1 gain)) (broadcastInDim S16384x2048 ![0, 1] bcast_S1x2048_S16384x2048_0_1 bias)) (extf .f32 bonus bitsLt_bf16_f32)) (extf .f32 g bitsLt_bf16_f32)))

/-- The RMS norm of the rows. -/
def RMS (x : FVec Ideal S16384x2048 .f32) (g : FVec Ideal S1x2048 .f32) : FVec Ideal S16384x2048 .f32 :=
  mulf (mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 g)

/-- The first result of merged rows. -/
def HID (a : FVec Ideal S16384x2048 .f32) (w : FVec Ideal S2048x2048 .bf16) (x : FVec Ideal S16384x2048 .f32) (g : FVec Ideal S1x2048 .f32) : FVec Ideal S16384x2048 .f32 :=
  addf x (RMS (Host.dotGeneral dot_S16384x2048_S2048x2048_S16384x2048_1_0_0_1_n_n none a (extf .f32 w bitsLt_bf16_f32)) g)

/-- The first result of the arguments in memory. -/
def OUT (m : (ℓ : Loc nD τ sig) → Buf (Elt Ideal) ℓ) (c : Dev nD) : FVec Ideal S16384x2048 .f32 :=
  HID (MERGED (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
    (m ((c.tc : Thread nD τ).loc main_arg8)) (m ((c.tc : Thread nD τ).loc main_arg9)) (m ((c.tc : Thread nD τ).loc main_arg10))

/-- The run's first result is the one spelled here. -/
theorem res54 (m : (ℓ : Loc nD τ sig) → Buf (Elt Ideal) ℓ) (c : Dev nD) : res_main_v54 m c = OUT m c := rfl

/-- The run's second result is the RMS norm of the first. -/
theorem res67 (m : (ℓ : Loc nD τ sig) → Buf (Elt Ideal) ℓ) (c : Dev nD) :
    res_main_v67 m c = truncf .bf16 (RMS (OUT m c) (m ((c.tc : Thread nD τ).loc main_arg11))) bitsLt_bf16_f32 := rfl

theorem mean_at (y : FVec Ideal S16384x32x64 .f32) (r : Fin 16384) (h : Fin 32) :
    MEAN y (ix3 r h 0) = mean (fun l => y (ix3 r h l)) := by
  pointwise! [MEAN, mean]

theorem dev_at (y : FVec Ideal S16384x32x64 .f32) (r : Fin 16384) (h : Fin 32) (l : Fin 64) :
    DEV y (ix3 r h l) = y (ix3 r h l) - mean (fun l => y (ix3 r h l)) := by
  rw [← mean_at]
  pointwise! [DEV]

/-- The group norm at an index. -/
theorem gn_at (y : FVec Ideal S16384x32x64 .f32) (r : Fin 16384) (h : Fin 32) (l : Fin 64) :
    GN y (ix3 r h l) = groupNorm (fun l => y (ix3 r h l)) l := by
  have e : mean (fun k => (y (ix3 r h k) - mean (fun l => y (ix3 r h l))) * (y (ix3 r h k) - mean (fun l => y (ix3 r h l)))) = MEAN (mulf (DEV y) (DEV y)) (ix3 r h 0) := by
    rw [mean_at]
    refine congrArg mean (funext fun k => ?_)
    rw [← dev_at]
    pointwise!
  rw [groupNorm, e, ← dev_at]
  pointwise! [GN]

/-- The gated merge at an index. -/
theorem merged_at (yf yb : FVec Ideal S16384x2048 .f32) (bonus g att : FVec Ideal S16384x2048 .bf16) (cols : FVec Ideal S16384x14336 .bf16) (gain bias : FVec Ideal S1x2048 .f32)
    (r : Fin 16384) (k : Fin 2048) :
    MERGED yf yb bonus g att cols gain bias (ix2 r k)
      = merged (groupNorm (fun l => yf (ix2 r ⟨k.val / 64 * 64 + l.val, by omega⟩) + yb (ix2 r ⟨k.val / 64 * 64 + l.val, by omega⟩)) ⟨k.val % 64, by omega⟩)
          (gain (ix2 0 k)) (bias (ix2 0 k)) (bonus (ix2 r k)) (g (ix2 r k)) (att (ix2 r k)) (cols (ix2 r ⟨4096 + k.val, by omega⟩)) := by
  have e : groupNorm (fun l => yf (ix2 r ⟨k.val / 64 * 64 + l.val, by omega⟩) + yb (ix2 r ⟨k.val / 64 * 64 + l.val, by omega⟩)) ⟨k.val % 64, by omega⟩
      = GN (shapeCast _ (addf yf yb) shapeCasts_S16384x2048_S16384x32x64) (ix3 r ⟨k.val / 64, by omega⟩ ⟨k.val % 64, by omega⟩) := by
    rw [gn_at]
    refine congrArg (fun f => groupNorm f _) (funext fun l => ?_)
    pointwise!
  rw [e, merged]
  pointwise! [MERGED]

/-- The RMS norm at an index. -/
theorem rms_at (x : FVec Ideal S16384x2048 .f32) (g : FVec Ideal S1x2048 .f32) (r : Fin 16384) (k : Fin 2048) :
    RMS x g (ix2 r k) = normed (fun l => x (ix2 r l)) (fun l => g (ix2 0 l)) k := by
  pointwise! [RMS, normed]

/-- The first result at an index. -/
theorem hid_at (a : FVec Ideal S16384x2048 .f32) (w : FVec Ideal S2048x2048 .bf16) (x : FVec Ideal S16384x2048 .f32) (g : FVec Ideal S1x2048 .f32) (r : Fin 16384) (k : Fin 2048) :
    HID a w x g (ix2 r k) = hid (fun j => a (ix2 r j)) (fun j l => w (ix2 j l)) (fun l => x (ix2 r l)) (fun l => g (ix2 0 l)) k := by
  have e : (fun l => ∑ j : Fin 2048, a (ix2 r j) * w (ix2 j l)) = fun l => Host.dotGeneral dot_S16384x2048_S2048x2048_S16384x2048_1_0_0_1_n_n none a (extf .f32 w bitsLt_bf16_f32) (ix2 r l) :=
    funext fun l => by pointwise!
  rw [hid, e, ← rms_at]
  pointwise! [HID]

end Cert.OutprojRefIdeal.Value
-- ==== Proof.OutprojTile.lean ====
/- The output projection's body: one tile of the gated merge, 128 columns holding two heads, read at an index. -/
module

public import proofs.«01_k».proof.Defs
public import proofs.«01_k».proof.Proof.Gen.OutprojIdeal.Skeleton
public import proofs.«01_k».proof.Proof.OutprojRef

@[expose] public section

set_option maxRecDepth 16384

noncomputable section

open Idealize.ShloMosaic

namespace Cert.OutprojIdeal.Value

open Cert.OutprojIdeal Cert.OutprojIdeal.Gen Idealize.ShloMosaic.TcCoe Idealize.SL.Sem Idealize.ShloMosaic.Pipeline Cert.M.Outproj

/-- The product with a constant 0/1 matrix of two blocks adds up the half that holds the column. -/
theorem half_sum (f e : Fin 128 → EReal) (k : Fin 128) (he : ∀ j : Fin 128, e j = if j.val / 64 = k.val / 64 then 1 else 0) :
    ∑ j : Fin 128, f j * e j = ∑ l : Fin 64, f ⟨k.val / 64 * 64 + l.val, by omega⟩ := by
  rw [Fin.sum_univ_tiles 2 64 rfl]
  have h : ∀ a : Fin 2, ∀ l : Fin 64, ∀ hj, f ⟨a.val * 64 + l.val, hj⟩ * e ⟨a.val * 64 + l.val, hj⟩ = if a.val = k.val / 64 then f ⟨a.val * 64 + l.val, hj⟩ else 0 := by
    intro a l hj
    rw [he, show (a.val * 64 + l.val) / 64 = a.val by omega]
    split <;> simp
  simp only [h, Fin.sum_univ_two]
  have hk : k.val / 64 = 0 ∨ k.val / 64 = 1 := by omega
  rcases hk with hk | hk <;> simp [hk]

/-- Division by 64 is the product with its inverse. -/
theorem div64 (x : EReal) : x * Ideal.ofBits .f32 0x3C800000#32 = Ideal.div x (Ideal.ofBits .f32 0x42800000#32) := by
  have e1 : Ideal.ofBits .f32 0x42800000#32 = ((64 : ℝ) : EReal) := by simp [Ideal.ofBits, Ideal.ieee]; rw [← EReal.coe_mul]; norm_num
  have e2 : Ideal.ofBits .f32 0x3C800000#32 = ((1 / 64 : ℝ) : EReal) := by simp [Ideal.ofBits, Ideal.ieee]; rw [← EReal.coe_mul]; norm_num
  rw [e1, e2, Ideal.div_coe (by norm_num)]

/-- The literal one half. -/
theorem half : Ideal.ofBits .f32 0x3F000000#32 = ((1 / 2 : ℝ) : EReal) := by simp [Ideal.ofBits, Ideal.ieee]; rw [← EReal.coe_mul]; norm_num

/-- The head means of a tile: the product with the constant matrix, over 64. -/
def TMEAN (bd : FVec Ideal S128x128 .bf16) (y : FVec Ideal S256x128 .f32) : FVec Ideal S256x128 .f32 :=
  mulf (matmul dot_S256x128_S128x128_S256x128_1_0_0_1_n_n none (truncf .bf16 y bitsLt_bf16_f32) bd (constant S256x128 .f32 0x00000000#32)) (broadcast S256x128 (Scalar.ofBits .f32 0x3C800000#32))

/-- The tile less its head means. -/
def TDEV (bd : FVec Ideal S128x128 .bf16) (y : FVec Ideal S256x128 .f32) : FVec Ideal S256x128 .f32 := subf y (TMEAN bd y)

/-- The group norm of a tile. -/
def TGN (bd : FVec Ideal S128x128 .bf16) (y : FVec Ideal S256x128 .f32) : FVec Ideal S256x128 .f32 :=
  mulf (TDEV bd y) (rsqrt (addf (TMEAN bd (mulf (TDEV bd y) (TDEV bd y))) (broadcast S256x128 (Scalar.ofBits .f32 0x3A27C5AC#32))))

/-- A tile of the gated merge. -/
def TILE (bd : FVec Ideal S128x128 .bf16) (yf yb : FVec Ideal S256x128 .f32) (gain bias : FVec Ideal S1x128 .f32) (bonus g att gate : FVec Ideal S256x128 .bf16) : FVec Ideal S256x128 .bf16 :=
  shapeCast S256x128 (truncf .bf16 (addf (extf .f32 att bitsLt_bf16_f32) (mulf (addf (mulf (broadcast S256x128 (Scalar.ofBits .f32 0x3F000000#32)) (tanh (mulf (broadcast S256x128 (Scalar.ofBits .f32 0x3F000000#32)) (extf .f32 gate bitsLt_bf16_f32)))) (broadcast S256x128 (Scalar.ofBits .f32 0x3F000000#32)))
    (mulf (addf (addf (mulf (TGN bd (addf yf yb)) (broadcastTo S256x128 gain broadcasts_S1x128_S256x128)) (broadcastTo S256x128 bias broadcasts_S1x128_S256x128)) (extf .f32 bonus bitsLt_bf16_f32)) (extf .f32 g bitsLt_bf16_f32)))) bitsLt_bf16_f32) shapeCasts_S256x128_S256x128

/-- Two of the printed payloads composed are the tile. -/
example (bd : FVec Ideal S128x128 .bf16) (yf yb : FVec Ideal S256x128 .f32) (gain bias : FVec Ideal S1x128 .f32) (bonus g att gate : FVec Ideal S256x128 .bf16) :
    k0_pay52 (F := Ideal) (k0_pay51 bd yf yb gain bias bonus) g att gate = TILE bd yf yb gain bias bonus g att gate := rfl

/-- The constant matrix has a one exactly where row and column lie in one head. -/
def Heads (bd : FVec Ideal S128x128 .bf16) : Prop := ∀ j k : Fin 128, bd (ix2 j k) = if j.val / 64 = k.val / 64 then (1 : EReal) else 0

theorem tmean_at (bd : FVec Ideal S128x128 .bf16) (hbd : Heads bd) (y : FVec Ideal S256x128 .f32) (r : Fin 256) (k : Fin 128) :
    TMEAN bd y (ix2 r k) = mean (fun l => y (ix2 r ⟨k.val / 64 * 64 + l.val, by omega⟩)) := by
  rw [mean, ← half_sum (fun j => y (ix2 r j)) (fun j => bd (ix2 j k)) k (fun j => hbd j k), ← div64]
  pointwise! [TMEAN]

theorem tdev_at (bd : FVec Ideal S128x128 .bf16) (hbd : Heads bd) (y : FVec Ideal S256x128 .f32) (r : Fin 256) (k : Fin 128) :
    TDEV bd y (ix2 r k) = y (ix2 r k) - mean (fun l => y (ix2 r ⟨k.val / 64 * 64 + l.val, by omega⟩)) := by
  rw [← tmean_at bd hbd]
  pointwise! [TDEV]

theorem tgn_at (bd : FVec Ideal S128x128 .bf16) (hbd : Heads bd) (y : FVec Ideal S256x128 .f32) (r : Fin 256) (k : Fin 128) :
    TGN bd y (ix2 r k) = groupNorm (fun l => y (ix2 r ⟨k.val / 64 * 64 + l.val, by omega⟩)) ⟨k.val % 64, by omega⟩ := by
  have e : mean (fun j => (y (ix2 r ⟨k.val / 64 * 64 + j.val, by omega⟩) - mean (fun l => y (ix2 r ⟨k.val / 64 * 64 + l.val, by omega⟩))) * (y (ix2 r ⟨k.val / 64 * 64 + j.val, by omega⟩) - mean (fun l => y (ix2 r ⟨k.val / 64 * 64 + l.val, by omega⟩))))
      = TMEAN bd (mulf (TDEV bd y) (TDEV bd y)) (ix2 r k) := by
    rw [tmean_at bd hbd]
    refine congrArg mean (funext fun j => ?_)
    have e2 : TDEV bd y (ix2 r ⟨k.val / 64 * 64 + j.val, by omega⟩) = y (ix2 r ⟨k.val / 64 * 64 + j.val, by omega⟩) - mean (fun l => y (ix2 r ⟨k.val / 64 * 64 + l.val, by omega⟩)) := by
      rw [tdev_at bd hbd]
      simp only [show (k.val / 64 * 64 + j.val) / 64 = k.val / 64 by omega]
    rw [← e2]
    pointwise!
  have e3 : y (ix2 r ⟨k.val / 64 * 64 + k.val % 64, by omega⟩) = y (ix2 r k) := congrArg (fun j => y (ix2 r j)) (Fin.ext (by show k.val / 64 * 64 + k.val % 64 = k.val; omega))
  rw [groupNorm, e, e3, ← tdev_at bd hbd]
  pointwise! [TGN]

/-- A tile of the gated merge at an index. -/
theorem tile_at (bd : FVec Ideal S128x128 .bf16) (hbd : Heads bd) (yf yb : FVec Ideal S256x128 .f32) (gain bias : FVec Ideal S1x128 .f32) (bonus g att gate : FVec Ideal S256x128 .bf16) (r : Fin 256) (k : Fin 128) :
    TILE bd yf yb gain bias bonus g att gate (ix2 r k)
      = merged (groupNorm (fun l => yf (ix2 r ⟨k.val / 64 * 64 + l.val, by omega⟩) + yb (ix2 r ⟨k.val / 64 * 64 + l.val, by omega⟩)) ⟨k.val % 64, by omega⟩)
          (gain (ix2 0 k)) (bias (ix2 0 k)) (bonus (ix2 r k)) (g (ix2 r k)) (att (ix2 r k)) (gate (ix2 r k)) := by
  have e : groupNorm (fun l => yf (ix2 r ⟨k.val / 64 * 64 + l.val, by omega⟩) + yb (ix2 r ⟨k.val / 64 * 64 + l.val, by omega⟩)) ⟨k.val % 64, by omega⟩ = TGN bd (addf yf yb) (ix2 r k) := by
    rw [tgn_at bd hbd]
    refine congrArg (fun f => groupNorm f _) (funext fun l => ?_)
    pointwise!
  rw [e, merged, ← Cert.M.logistic_eq, ← half]
  pointwise! [TILE]

end Cert.OutprojIdeal.Value
-- ==== Proof.OutprojLit.lean ====
/- The output projection's constant matrix: which words it holds. -/
module

public import proofs.«01_k».proof.Defs
public import proofs.«01_k».proof.Proof.Gen.OutprojIdeal.Skeleton

@[expose] public section

set_option maxRecDepth 16384

noncomputable section

namespace Cert.OutprojIdeal.Value

open Cert.OutprojIdeal Cert.OutprojIdeal.Gen Idealize.ShloMosaic Idealize.ShloMosaic.TcCoe Idealize.SL.Sem Idealize.ShloMosaic.Pipeline

set_option maxRecDepth 100000 in
/-- The constant's words. -/
theorem lit0_eq : ∀ i : Fin 16384, lit0 i = if i.val / 128 / 64 = i.val % 128 / 64 then 0x3F80#16 else 0x0000#16 := by
  decide +kernel

end Cert.OutprojIdeal.Value
-- ==== Proof.OutprojValue.lean ====
/- The output projection: every block of the two results is the reference's, from the merged tiles through the product and the two norms. -/
module

public import proofs.«01_k».proof.Defs
public import proofs.«01_k».proof.Proof.Gen.OutprojIdeal.Value
public import proofs.«01_k».proof.Proof.OutprojTile
public import proofs.«01_k».proof.Proof.OutprojLit
public import Idealize.ShloMosaic.Lib.Pipeline.ValueKit

@[expose] public section

set_option maxRecDepth 16384

noncomputable section

namespace Cert.OutprojIdeal.Value

open Cert.OutprojIdeal Cert.OutprojIdeal.Gen Idealize.ShloMosaic Idealize.ShloMosaic.TcCoe Idealize.SL.Sem Idealize.ShloMosaic.Pipeline Cert.M.Outproj

/-- The blocks a grid point reads and writes. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0]
    ∧ win0_5.index t = ![t.val, 2] ∧ win0_6.index t = ![0, 0] ∧ win0_7.index t = ![0, 0] ∧ win0_8.index t = ![0, 0] ∧ win0_9.index t = ![0, 0] ∧ win0_10.index t = ![t.val, 0]
    ∧ win0_11.index t = ![0, 0] ∧ win0_12.index t = ![0, 0] ∧ win0_13.index t = ![t.val, 0] ∧ win0_14.index t = ![t.val, 0] :=
  (by decide +kernel : ∀ t : Fin grid0.N, _)

/-- The merged rows of a block, from the blocks of the arguments. -/
def MB (yf yb : FVec Ideal S256x2048 .f32) (gain bias : FVec Ideal S1x2048 .f32) (bonus g att gate : FVec Ideal S256x2048 .bf16) : FVec Ideal S256x2048 .bf16 := fun i =>
  have h : (i 1).val < 2048 := (i 1).isLt
  merged (groupNorm (fun l => yf (ix2 (i 0) ⟨(i 1).val / 64 * 64 + l.val, by omega⟩) + yb (ix2 (i 0) ⟨(i 1).val / 64 * 64 + l.val, by omega⟩)) ⟨(i 1).val % 64, by omega⟩)
    (gain (ix2 0 (i 1))) (bias (ix2 0 (i 1))) (bonus i) (g i) (att i) (gate i)

/-- The merged rows of a block at an index. -/
theorem mb_at (yf yb : FVec Ideal S256x2048 .f32) (gain bias : FVec Ideal S1x2048 .f32) (bonus g att gate : FVec Ideal S256x2048 .bf16) (r : Fin 256) (k : Fin 2048) :
    MB yf yb gain bias bonus g att gate (ix2 r k)
      = merged (groupNorm (fun l => yf (ix2 r ⟨k.val / 64 * 64 + l.val, by omega⟩) + yb (ix2 r ⟨k.val / 64 * 64 + l.val, by omega⟩)) ⟨k.val % 64, by omega⟩)
          (gain (ix2 0 k)) (bias (ix2 0 k)) (bonus (ix2 r k)) (g (ix2 r k)) (att (ix2 r k)) (gate (ix2 r k)) := rfl

theorem tile_in (k : Fin 16) : ∀ a, (![0, k.val * 128] : Fin 2 → ℕ) a + (![256, 128] : Fin 2 → ℕ) a ≤ S256x2048.size a := by
  intro a; fin_cases a
  · exact le_refl 256
  · show k.val * 128 + 128 ≤ 2048; omega

theorem vec_in (k : Fin 16) : ∀ a, (![0, k.val * 128] : Fin 2 → ℕ) a + (![1, 128] : Fin 2 → ℕ) a ≤ S1x2048.size a := by
  intro a; fin_cases a
  · exact le_refl 1
  · show k.val * 128 + 128 ≤ 2048; omega

/-- Column tile `k` of a block of f32. -/
abbrev tl (x : FVec Ideal S256x2048 .f32) (k : Fin 16) : FVec Ideal S256x128 .f32 := View.ld (Val := Elt Ideal) (S := S256x2048) (e' := .f32) x (Rect.unit ![0, k.val * 128] ![256, 128] (tile_in k))

/-- Column tile `k` of a block of bf16. -/
abbrev tb (x : FVec Ideal S256x2048 .bf16) (k : Fin 16) : FVec Ideal S256x128 .bf16 := View.ld (Val := Elt Ideal) (S := S256x2048) (e' := .bf16) x (Rect.unit ![0, k.val * 128] ![256, 128] (tile_in k))

/-- Column tile `k` of a row. -/
abbrev tv (x : FVec Ideal S1x2048 .f32) (k : Fin 16) : FVec Ideal S1x128 .f32 := View.ld (Val := Elt Ideal) (S := S1x2048) (e' := .f32) x (Rect.unit ![0, k.val * 128] ![1, 128] (vec_in k))

/-- The store of column tile `k`. -/
def piece (bd : FVec Ideal S128x128 .bf16) (yf yb : FVec Ideal S256x2048 .f32) (gain bias : FVec Ideal S1x2048 .f32) (bonus g att gate : FVec Ideal S256x2048 .bf16) (k : Fin 16) : View.Piece (Elt Ideal) S256x2048 .bf16 :=
  ⟨Rect.unit ![0, k.val * 128] ![256, 128] (tile_in k), TILE bd (tl yf k) (tl yb k) (tv gain k) (tv bias k) (tb bonus k) (tb g k) (tb att k) (tb gate k)⟩

/-- The sixteen stores into the scratch, the last first. -/
def pieces (bd : FVec Ideal S128x128 .bf16) (yf yb : FVec Ideal S256x2048 .f32) (gain bias : FVec Ideal S1x2048 .f32) (bonus g att gate : FVec Ideal S256x2048 .bf16) : List (View.Piece (Elt Ideal) S256x2048 .bf16) :=
  [15, 14, 13, 12, 11, 10, 9, 8, 7, 6, 5, 4, 3, 2, 1, 0].map (piece bd yf yb gain bias bonus g att gate)

/-- Each store writes its tile of the merged rows. -/
theorem piece_eq (bd : FVec Ideal S128x128 .bf16) (hbd : Heads bd) (yf yb : FVec Ideal S256x2048 .f32) (gain bias : FVec Ideal S1x2048 .f32) (bonus g att gate : FVec Ideal S256x2048 .bf16) (k : Fin 16)
    (x : (piece bd yf yb gain bias bonus g att gate k).1.shape.Idx) :
    (piece bd yf yb gain bias bonus g att gate k).2 x = MB yf yb gain bias bonus g att gate ((piece bd yf yb gain bias bonus g att gate k).1.emb x) := by
  obtain ⟨r, j, rfl⟩ : ∃ (r : Fin 256) (j : Fin 128), x = ix2 r j := ⟨x 0, x 1, by funext a; fin_cases a <;> rfl⟩
  refine (tile_at bd hbd _ _ _ _ _ _ _ _ r j).trans ?_
  have e0 : ∀ j' : Fin 128, (Rect.unit ![0, k.val * 128] ![256, 128] (tile_in k)).emb (ix2 r j') = (ix2 r ⟨k.val * 128 + j'.val, by omega⟩ : S256x2048.Idx) := by
    intro j'
    blk_ext
  have e1 : ∀ j' : Fin 128, (Rect.unit ![0, k.val * 128] ![1, 128] (vec_in k)).emb (ix2 0 j') = (ix2 0 ⟨k.val * 128 + j'.val, by omega⟩ : S1x2048.Idx) := by
    intro j'
    blk_ext
  have hj : j.val < 128 := j.isLt
  have hk : k.val < 16 := k.isLt
  show _ = MB yf yb gain bias bonus g att gate ((Rect.unit (s := S256x2048) ![0, k.val * 128] ![256, 128] (tile_in k)).emb (ix2 r j))
  rw [e0 j]
  have l0 : ∀ (x : FVec Ideal S256x2048 .f32) (j' : Fin 128), tl x k (ix2 r j') = x (ix2 r ⟨k.val * 128 + j'.val, by omega⟩) := fun x j' => congrArg x (e0 j')
  have l1 : ∀ (x : FVec Ideal S256x2048 .bf16) (j' : Fin 128), tb x k (ix2 r j') = x (ix2 r ⟨k.val * 128 + j'.val, by omega⟩) := fun x j' => congrArg x (e0 j')
  have l2 : ∀ (x : FVec Ideal S1x2048 .f32) (j' : Fin 128), tv x k (ix2 0 j') = x (ix2 0 ⟨k.val * 128 + j'.val, by omega⟩) := fun x j' => congrArg x (e1 j')
  have hy : (fun l : Fin 64 => tl yf k (ix2 r ⟨j.val / 64 * 64 + l.val, by omega⟩) + tl yb k (ix2 r ⟨j.val / 64 * 64 + l.val, by omega⟩))
      = fun l => yf (ix2 r ⟨k.val * 128 + (j.val / 64 * 64 + l.val), by omega⟩) + yb (ix2 r ⟨k.val * 128 + (j.val / 64 * 64 + l.val), by omega⟩) :=
    funext fun l => congrArg₂ (· + ·) (l0 yf _) (l0 yb _)
  rw [hy, l1 bonus j, l1 g j, l1 att j, l1 gate j, l2 gain j, l2 bias j]
  show _ = merged (groupNorm (fun l => yf (ix2 r ⟨(k.val * 128 + j.val) / 64 * 64 + l.val, by omega⟩) + yb (ix2 r ⟨(k.val * 128 + j.val) / 64 * 64 + l.val, by omega⟩)) ⟨(k.val * 128 + j.val) % 64, by omega⟩) _ _ _ _ _ _
  have h1 : ∀ l : Fin 64, (⟨(k.val * 128 + j.val) / 64 * 64 + l.val, by omega⟩ : Fin 2048) = ⟨k.val * 128 + (j.val / 64 * 64 + l.val), by omega⟩ := fun l => Fin.ext (by show (k.val * 128 + j.val) / 64 * 64 + l.val = k.val * 128 + (j.val / 64 * 64 + l.val); omega)
  have h2 : (⟨(k.val * 128 + j.val) % 64, by omega⟩ : Fin 64) = ⟨j.val % 64, by omega⟩ := Fin.ext (by show (k.val * 128 + j.val) % 64 = j.val % 64; omega)
  rw [h2]
  simp only [h1]
  rfl

/-- The scratch read back is the merged rows. -/
theorem canon_pieces (bd : FVec Ideal S128x128 .bf16) (hbd : Heads bd) (yf yb : FVec Ideal S256x2048 .f32) (gain bias : FVec Ideal S1x2048 .f32) (bonus g att gate : FVec Ideal S256x2048 .bf16) :
    View.canon (pieces bd yf yb gain bias bonus g att gate) = MB yf yb gain bias bonus g att gate := by
  funext y
  refine View.canon_apply_of_pieces _ _ ?_ y (View.cover_of_tiled _ ![256, 128] rfl y)
  intro p hp
  obtain ⟨k, _, rfl⟩ := List.mem_map.mp hp
  exact piece_eq bd hbd yf yb gain bias bonus g att gate k

/-- The merged rows a grid point computes. -/
def MBt (m : (ℓ : Loc nD τ sig) → Buf (Elt Ideal) ℓ) (c : Dev nD) (t : Fin cfg0.N) : FVec Ideal S256x2048 .bf16 :=
  MB (iblk m c 0 t) (iblk m c 1 t) (iblk m c 6 t) (iblk m c 7 t) (iblk m c 2 t) (iblk m c 3 t) (iblk m c 4 t) (iblk m c 5 t)

theorem heads (m : (ℓ : Loc nD τ sig) → Buf (Elt Ideal) ℓ) (c : Dev nD) (t : Fin cfg0.N) : Heads (iblk m c 8 t) := by
  intro j k
  have e : (iblk m c 8 t : FVec Ideal S128x128 .bf16) (ix2 j k) = Ideal.ofBits .bf16 (lit0 ⟨j.val * 128 + k.val, by omega⟩) := by
    blk_simp [iblk]
    entry_read
    refine congrArg (fun i => Ideal.ofBits .bf16 (lit0 i)) (Fin.ext ?_)
    have e8 : ((View.whole main_cst).slice (win0_8.rect t)).emb (ix2 j k) = (ix2 j k : S128x128.Idx) := by
      blk_ext [idx t]
    rw [e8]
    exact Shape.rowMajor_val_two (d := ![128, 128]) (ix2 j k)
  have h1 : (j.val * 128 + k.val) / 128 = j.val := by omega
  have h2 : (j.val * 128 + k.val) % 128 = k.val := by omega
  rw [e, lit0_eq]
  dsimp only
  rw [h1, h2]
  split
  · simp [Ideal.ofBits, Ideal.ieee]
    rw [← EReal.coe_mul]
    norm_num
  · simp [Ideal.ofBits, Ideal.ieee]

theorem read_back (m : (ℓ : Loc nD τ sig) → Buf (Elt Ideal) ℓ) (c : Dev nD) (t : Fin cfg0.N) (v : View sig .tc .vmem S256x2048 .bf16)
    (L : List (View.Piece (Elt Ideal) S256x2048 .bf16)) (h : L = pieces (iblk m c 8 t) (iblk m c 0 t) (iblk m c 1 t) (iblk m c 6 t) (iblk m c 7 t) (iblk m c 2 t) (iblk m c 3 t) (iblk m c 4 t) (iblk m c 5 t)) (inb) :
    v.readCov L (Rect.unit ![0, 0] ![256, 2048] inb).toLoadRect = MBt m c t := by
  subst h
  refine (View.readCov_eq_canon' v _ _).trans ?_
  rw [canon_pieces _ (heads m c t)]
  have e : View.ld (Val := Elt Ideal) (S := S256x2048) (e' := .bf16) (MBt m c t) (Rect.unit ![0, 0] ![256, 2048] inb) = MBt m c t :=
    View.ld_unit_zero (S := S256x2048) (off := ![0, 0]) (by funext a; fin_cases a <;> rfl) inb _
  exact e

/-- What a point writes into the first result. -/
theorem out13 (m : (ℓ : Loc nD τ sig) → Buf (Elt Ideal) ℓ) (c : Dev nD) (t : Fin cfg0.N) :
    (dats m 0 c).after 13 t = k0_pay1 (F := Ideal) (iblk m c 10 t) (k0_pay53 (MBt m c t) (iblk m c 9 t)) (k0_pay54 (iblk m c 11 t)) := by
  rw [after0_13]
  unfold outsAt0
  frame_out
  exact congrArg (fun x => k0_pay1 (F := Ideal) (iblk m c 10 t) (k0_pay53 x (iblk m c 9 t)) (k0_pay54 (iblk m c 11 t))) (read_back m c t _ _ rfl _)

/-- What a point writes into the second result. -/
theorem out14 (m : (ℓ : Loc nD τ sig) → Buf (Elt Ideal) ℓ) (c : Dev nD) (t : Fin cfg0.N) :
    (dats m 0 c).after 14 t = k0_pay2 (F := Ideal) (iblk m c 10 t) (k0_pay53 (MBt m c t) (iblk m c 9 t)) (k0_pay54 (iblk m c 11 t)) (iblk m c 12 t) := by
  rw [after0_14]
  unfold outsAt0
  frame_out
  exact congrArg (fun x => k0_pay2 (F := Ideal) (iblk m c 10 t) (k0_pay53 x (iblk m c 9 t)) (k0_pay54 (iblk m c 11 t)) (iblk m c 12 t)) (read_back m c t _ _ rfl _)

/-- The first result's payload at an index. -/
theorem pay1_at (x : FVec Ideal S256x2048 .f32) (a : FVec Ideal S256x2048 .bf16) (w : FVec Ideal S2048x2048 .bf16) (g : FVec Ideal S1x2048 .f32) (r : Fin 256) (k : Fin 2048) :
    k0_pay1 (F := Ideal) x (k0_pay53 a w) (k0_pay54 g) (ix2 r k) = hid (fun j => a (ix2 r j)) (fun j l => w (ix2 j l)) (fun l => x (ix2 r l)) (fun l => g (ix2 0 l)) k := by
  pointwise! [k0_pay1, k0_pay53, k0_pay54, hid, normed]

/-- The second result's payload at an index. -/
theorem pay2_at (x a b : FVec Ideal S256x2048 .f32) (g : FVec Ideal S1x2048 .f32) (r : Fin 256) (k : Fin 2048) :
    k0_pay2 (F := Ideal) x a b g (ix2 r k) = normed (fun l => k0_pay1 (F := Ideal) x a b (ix2 r l)) (fun l => g (ix2 0 l)) k := by
  pointwise! [k0_pay2, normed]

/-- Merged rows whose arguments are the arrays' rows `R` are the merge of those. -/
theorem mb_of (yf yb : FVec Ideal S256x2048 .f32) (gain bias : FVec Ideal S1x2048 .f32) (bonus g att gate : FVec Ideal S256x2048 .bf16)
    (YF YB : FVec Ideal S16384x2048 .f32) (GAIN BIAS : FVec Ideal S1x2048 .f32) (BONUS G ATT : FVec Ideal S16384x2048 .bf16) (COLS : FVec Ideal S16384x14336 .bf16)
    (r : Fin 256) (R : Fin 16384) (k : Fin 2048)
    (e0 : ∀ k', yf (ix2 r k') = YF (ix2 R k')) (e1 : ∀ k', yb (ix2 r k') = YB (ix2 R k')) (e6 : gain (ix2 0 k) = GAIN (ix2 0 k)) (e7 : bias (ix2 0 k) = BIAS (ix2 0 k))
    (e2 : bonus (ix2 r k) = BONUS (ix2 R k)) (e3 : g (ix2 r k) = G (ix2 R k)) (e4 : att (ix2 r k) = ATT (ix2 R k)) (e5 : gate (ix2 r k) = COLS (ix2 R ⟨4096 + k.val, by omega⟩)) :
    MB yf yb gain bias bonus g att gate (ix2 r k)
      = merged (groupNorm (fun l => YF (ix2 R ⟨k.val / 64 * 64 + l.val, by omega⟩) + YB (ix2 R ⟨k.val / 64 * 64 + l.val, by omega⟩)) ⟨k.val % 64, by omega⟩)
          (GAIN (ix2 0 k)) (BIAS (ix2 0 k)) (BONUS (ix2 R k)) (G (ix2 R k)) (ATT (ix2 R k)) (COLS (ix2 R ⟨4096 + k.val, by omega⟩)) := by
  rw [mb_at, e2, e3, e4, e5, e6, e7]
  simp only [e0, e1]

/-- The merged rows of a block are the reference's. -/
theorem mb_eq (m : (ℓ : Loc nD τ sig) → Buf (Elt Ideal) ℓ) (c : Dev nD) (t : Fin cfg0.N) (r : Fin 256) (k : Fin 2048) (hr : t.val * 256 + r.val < 16384) :
    MBt m c t (ix2 r k) = Cert.OutprojRefIdeal.Value.MERGED (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 ⟨t.val * 256 + r.val, hr⟩ k) := by
  rw [Cert.OutprojRefIdeal.Value.merged_at]
  have e0 : ∀ k' : Fin 2048, (iblk m c 0 t : FVec Ideal S256x2048 .f32) (ix2 r k') = m ((c : Thread nD τ).loc main_arg0) (ix2 ⟨t.val * 256 + r.val, hr⟩ k') := fun k' => by blk_ext [iblk, V, idx t]
  have e1 : ∀ k' : Fin 2048, (iblk m c 1 t : FVec Ideal S256x2048 .f32) (ix2 r k') = m ((c : Thread nD τ).loc main_arg1) (ix2 ⟨t.val * 256 + r.val, hr⟩ k') := fun k' => by blk_ext [iblk, V, idx t]
  have e2 : (iblk m c 2 t : FVec Ideal S256x2048 .bf16) (ix2 r k) = m ((c : Thread nD τ).loc main_arg2) (ix2 ⟨t.val * 256 + r.val, hr⟩ k) := by blk_ext [iblk, V, idx t]
  have e3 : (iblk m c 3 t : FVec Ideal S256x2048 .bf16) (ix2 r k) = m ((c : Thread nD τ).loc main_arg3) (ix2 ⟨t.val * 256 + r.val, hr⟩ k) := by blk_ext [iblk, V, idx t]
  have e4 : (iblk m c 4 t : FVec Ideal S256x2048 .bf16) (ix2 r k) = m ((c : Thread nD τ).loc main_arg4) (ix2 ⟨t.val * 256 + r.val, hr⟩ k) := by blk_ext [iblk, V, idx t]
  have e5 : (iblk m c 5 t : FVec Ideal S256x2048 .bf16) (ix2 r k) = m ((c : Thread nD τ).loc main_arg5) (ix2 ⟨t.val * 256 + r.val, hr⟩ ⟨4096 + k.val, by omega⟩) := by blk_ext [iblk, V, idx t]
  have e6 : (iblk m c 6 t : FVec Ideal S1x2048 .f32) (ix2 0 k) = m ((c : Thread nD τ).loc main_arg6) (ix2 0 k) := by blk_ext [iblk, V, idx t]
  have e7 : (iblk m c 7 t : FVec Ideal S1x2048 .f32) (ix2 0 k) = m ((c : Thread nD τ).loc main_arg7) (ix2 0 k) := by blk_ext [iblk, V, idx t]
  exact mb_of _ _ _ _ _ _ _ _ _ _ _ _ _ _ _ _ r _ k e0 e1 e6 e7 e2 e3 e4 e5

/-- The reference's first result of the kernel's arguments. -/
def HREF (m : (ℓ : Loc nD τ sig) → Buf (Elt Ideal) ℓ) (c : Dev nD) : FVec Ideal Cert.OutprojRefIdeal.S16384x2048 .f32 :=
  Cert.OutprojRefIdeal.Value.HID (Cert.OutprojRefIdeal.Value.MERGED (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))
    (m ((c : Thread nD τ).loc main_arg8)) (m ((c : Thread nD τ).loc main_arg9)) (m ((c : Thread nD τ).loc main_arg10))

/-- A block of the first result at an index. -/
theorem h_at (m : (ℓ : Loc nD τ sig) → Buf (Elt Ideal) ℓ) (c : Dev nD) (t : Fin cfg0.N) (r : Fin 256) (k : Fin 2048) (hr : t.val * 256 + r.val < 16384) :
    k0_pay1 (F := Ideal) (iblk m c 10 t) (k0_pay53 (MBt m c t) (iblk m c 9 t)) (k0_pay54 (iblk m c 11 t)) (ix2 r k) = HREF m c (ix2 ⟨t.val * 256 + r.val, hr⟩ k) := by
  refine (pay1_at _ _ _ _ r k).trans ?_
  unfold HREF
  rw [Cert.OutprojRefIdeal.Value.hid_at]
  have ea : (fun j => MBt m c t (ix2 r j)) = _ := funext fun j => mb_eq m c t r j hr
  have ew : (fun j l => (iblk m c 9 t : FVec Ideal S2048x2048 .bf16) (ix2 j l)) = fun j l => m ((c : Thread nD τ).loc main_arg8) (ix2 j l) := funext fun j => funext fun l => by blk_ext [iblk, V, idx t]
  have ex : (fun l => (iblk m c 10 t : FVec Ideal S256x2048 .f32) (ix2 r l)) = fun l => m ((c : Thread nD τ).loc main_arg9) (ix2 ⟨t.val * 256 + r.val, hr⟩ l) := funext fun l => by blk_ext [iblk, V, idx t]
  have eg : (fun l => (iblk m c 11 t : FVec Ideal S1x2048 .f32) (ix2 0 l)) = fun l => m ((c : Thread nD τ).loc main_arg10) (ix2 0 l) := funext fun l => by blk_ext [iblk, V, idx t]
  rw [ea, ew, ex, eg]

/-- The first array the call leaves is the reference's. -/
theorem final13 (m : (ℓ : Loc nD τ sig) → Buf (Elt Ideal) ℓ) (c : Dev nD) : (dats m 0 c).arrAt 13 cfg0.N = HREF m c := by
  refine (dats m 0 c).arrAt_eq_of_covers 13 _ (by decide +kernel) fun t hf y => ?_
  blk_simp
  rw [out13]
  idx_vars y
  have ht : t.val < 64 := lt_of_lt_of_eq t.isLt N_0
  refine (h_at m c t _ _ (by omega)).trans ?_
  blk_ext [idx t]

/-- The second array the call leaves is the reference's. -/
theorem final14 (m : (ℓ : Loc nD τ sig) → Buf (Elt Ideal) ℓ) (c : Dev nD) :
    (dats m 0 c).arrAt 14 cfg0.N = truncf .bf16 (Cert.OutprojRefIdeal.Value.RMS (HREF m c) (m ((c : Thread nD τ).loc main_arg11))) bitsLt_bf16_f32 := by
  refine (dats m 0 c).arrAt_eq_of_covers 14 _ (by decide +kernel) fun t hf y => ?_
  blk_simp
  rw [out14]
  idx_vars y
  have ht : t.val < 64 := lt_of_lt_of_eq t.isLt N_0
  refine (pay2_at _ _ _ _ _ _).trans ?_
  have e : normed (fun l => k0_pay1 (F := Ideal) (iblk m c 10 t) (k0_pay53 (MBt m c t) (iblk m c 9 t)) (k0_pay54 (iblk m c 11 t)) (ix2 y0 l)) (fun l => (iblk m c 12 t : FVec Ideal S1x2048 .f32) (ix2 0 l)) y1
      = Cert.OutprojRefIdeal.Value.RMS (HREF m c) (m ((c : Thread nD τ).loc main_arg11)) (ix2 ⟨t.val * 256 + y0.val, by omega⟩ y1) := by
    rw [Cert.OutprojRefIdeal.Value.rms_at]
    have ea : (fun l => k0_pay1 (F := Ideal) (iblk m c 10 t) (k0_pay53 (MBt m c t) (iblk m c 9 t)) (k0_pay54 (iblk m c 11 t)) (ix2 y0 l)) = _ := funext fun l => h_at m c t y0 l (by omega)
    have eg : (fun l => (iblk m c 12 t : FVec Ideal S1x2048 .f32) (ix2 0 l)) = fun l => m ((c : Thread nD τ).loc main_arg11) (ix2 0 l) := funext fun l => by blk_ext [iblk, V, idx t]
    rw [ea, eg]
  refine e.trans ?_
  blk_ext [idx t]

end Cert.OutprojIdeal.Value

namespace Cert.Proof

open Idealize.ShloMosaic Idealize.SL.Sem

/-- The output projection computes the reference's two results. -/
theorem algebraic_outproj : Cert.algebraic_OutprojIdeal_OutprojRefIdeal (hOutprojIdeal := Cert.OutprojIdeal.Gen.facts) (hOutprojRefIdeal := Cert.OutprojRefIdeal.Gen.facts) := by
  pair_intro
  · run_from Cert.OutprojIdeal.Value.run_blocks m g
  · run_from Cert.OutprojRefIdeal.Value.run m' g'
    · obtain ⟨h0, h1, h2, h3, h4, h5, h6, h7, h8, h9, h10, h11⟩ := hagree c
      rw [Cert.OutprojIdeal.Value.final13, Cert.OutprojRefIdeal.Value.res54, Cert.OutprojRefIdeal.Value.OUT, h0, h1, h2, h3, h4, h5, h6, h7, h8, h9, h10]
      rfl
    · obtain ⟨h0, h1, h2, h3, h4, h5, h6, h7, h8, h9, h10, h11⟩ := hagree c
      rw [Cert.OutprojIdeal.Value.final14, Cert.OutprojRefIdeal.Value.res67, Cert.OutprojRefIdeal.Value.OUT, h0, h1, h2, h3, h4, h5, h6, h7, h8, h9, h10, h11]
      rfl

end Cert.Proof
-- ==== Proof.M.Attend.lean ====
/- Attention with a sink over one row's keys: the weighted sum divided at the end, and the weights divided first. -/
module

public import proofs.«01_k».proof.Proof.M.Softmax

@[expose] public section

noncomputable section

namespace Cert.M.Attend

open Idealize.ShloMosaic

/-- The largest logit, the sink's among them. -/
def top {n : ℕ} (S : Fin n → EReal) (σ : EReal) : EReal := max (Finset.univ.fold max ⊥ S) σ

/-- The weighted sum of the values, divided at the end. -/
def soft {n : ℕ} (S v : Fin n → EReal) (σ : EReal) : EReal :=
  Ideal.div (∑ k, Ideal.exp (S k - top S σ) * v k) (∑ k, Ideal.exp (S k - top S σ) + Ideal.exp (σ - top S σ))

/-- The sum of the values, each weight divided first. -/
def softWeights {n : ℕ} (S v : Fin n → EReal) (σ : EReal) : EReal :=
  ∑ k, Ideal.div (Ideal.exp (S k - top S σ)) (∑ k, Ideal.exp (S k - top S σ) + Ideal.exp (σ - top S σ)) * v k

/-- Logits below infinity and a real sink have a real maximum. -/
theorem top_real {n : ℕ} (S : Fin n → EReal) (σ : ℝ) (hS : ∀ k, S k ≠ ⊤) : ∃ M : ℝ, top S σ = M := by
  have h1 : top S σ ≠ ⊤ := by
    have : top S σ < ⊤ := by
      refine max_lt ?_ (EReal.coe_lt_top σ)
      exact (Finset.fold_max_lt _).mpr ⟨bot_lt_top, fun k _ => lt_top_iff_ne_top.mpr (hS k)⟩
    exact this.ne
  have h2 : top S σ ≠ ⊥ := (lt_of_lt_of_le (EReal.bot_lt_coe σ) (le_max_right _ _)).ne'
  exact ⟨(top S σ).toReal, (EReal.coe_toReal h1 h2).symm⟩

/-- Dividing first or last is the same. -/
theorem soft_eq {n : ℕ} (S v : Fin n → EReal) (σ : ℝ) (hS : ∀ k, S k ≠ ⊤) : soft S v σ = softWeights S v σ := by
  obtain ⟨M, hM⟩ := top_real S σ hS
  unfold soft softWeights
  rw [hM]
  exact Cert.M.softmax_div Finset.univ S v M σ hS

/-- The values of keys that are masked don't matter. -/
theorem soft_congr {n : ℕ} (S v v' : Fin n → EReal) (σ : EReal) (h : ∀ k, S k = ⊥ ∨ v k = v' k) : soft S v σ = soft S v' σ := by
  unfold soft
  refine congrArg (Ideal.div · _) (Finset.sum_congr rfl fun k _ => ?_)
  rcases h k with e | e
  · rw [e, EReal.bot_sub, Ideal.exp_bot, zero_mul, zero_mul]
  · rw [e]

/-- The maximum of logits with one more behind them. -/
theorem fold_last {n : ℕ} (f : Fin (n + 1) → EReal) : Finset.univ.fold max ⊥ f = top (fun k : Fin n => f k.castSucc) (f (Fin.last n)) := by
  unfold top
  refine le_antisymm ?_ ?_
  · refine (Finset.fold_max_le _).mpr ⟨bot_le, fun k _ => ?_⟩
    induction k using Fin.lastCases with
    | last => exact le_max_right _ _
    | cast k => exact le_max_of_le_left ((Finset.le_fold_max _).mpr (Or.inr ⟨k, Finset.mem_univ k, le_refl _⟩))
  · refine max_le ((Finset.fold_max_le _).mpr ⟨bot_le, fun k _ => ?_⟩) ?_
    · exact (Finset.le_fold_max _).mpr (Or.inr ⟨k.castSucc, Finset.mem_univ _, le_refl _⟩)
    · exact (Finset.le_fold_max _).mpr (Or.inr ⟨Fin.last n, Finset.mem_univ _, le_refl _⟩)

/-- The weighted sum over logits with the sink's behind them. -/
theorem weights_last {n : ℕ} (f : Fin (n + 1) → EReal) (v : Fin n → EReal) :
    ∑ k : Fin n, v k * Ideal.div (Ideal.exp (f k.castSucc - Finset.univ.fold max ⊥ f)) (∑ j, Ideal.exp (f j - Finset.univ.fold max ⊥ f))
      = softWeights (fun k => f k.castSucc) v (f (Fin.last n)) := by
  unfold softWeights
  rw [← fold_last, Fin.sum_univ_castSucc]
  exact Finset.sum_congr rfl fun k _ => mul_comm _ _

end Cert.M.Attend

end
-- ==== Proof.AttnTile.lean ====
/- The attention kernel's vector steps, written once for every key head, block of queries and head, and read at an index. -/
module

public import proofs.«01_k».proof.Proof.Gen.AttnIdeal.Skeleton
public import proofs.«01_k».proof.Proof.M.Attend
public import Idealize.ShloMosaic.Lib.Pointwise

@[expose] public section

set_option maxRecDepth 16384

noncomputable section

namespace Cert.AttnIdeal.Tile

open Cert.AttnIdeal Cert.AttnIdeal.Gen Idealize.ShloMosaic Idealize.ShloMosaic.TcCoe Idealize.SL.Sem Cert.M.Attend

/-- The rows a point sees: the block before, its own four, the block after. -/
def ROWS {φ : FTy} (a : FVec Ideal S128x128 φ) (b : FVec Ideal S512x128 φ) (c : FVec Ideal S128x128 φ) : FVec Ideal S768x128 φ :=
  concatenate S768x128 0 [⟨S128x128, a⟩, ⟨S512x128, b⟩, ⟨S128x128, c⟩] concatenates_S128x128_S512x128_S128x128_S768x128_d0

/-- The rotated keys. -/
def KA (c s : FVec Ideal S768x128 .f32) (k : FVec Ideal S768x128 .bf16) : FVec Ideal S768x128 .bf16 :=
  truncf .bf16 (addf (mulf (extf .f32 k bitsLt_bf16_f32) c) (mulf (dynamicRotate 1 64#32 none (extf .f32 k bitsLt_bf16_f32) rotates_S768x128_d1) s)) bitsLt_bf16_f32

/-- One head's rotated queries. -/
def QT (o : Fin 2 → ℕ) (h : S512x128.Slices o S128x128) (cc sc : FVec Ideal S512x128 .f32) (q : FVec Ideal S128x128 .bf16) : FVec Ideal S128x128 .f32 :=
  addf (mulf (extf .f32 q bitsLt_bf16_f32) (extractStridedSlice S128x128 o cc h))
    (mulf (dynamicRotate 1 64#32 none (extf .f32 q bitsLt_bf16_f32) rotates_S128x128_d1) (extractStridedSlice S128x128 o sc h))

/-- The sink logit of each row, from the four heads'. -/
def SINK (s0 s1 s2 s3 : Elt Ideal .f32) : FVec Ideal S512x1 .f32 :=
  select (cmpi .eq k0_pay4 (broadcast S512x1 3#32)) (broadcast S512x1 s3)
    (select (cmpi .eq k0_pay4 (broadcast S512x1 2#32)) (broadcast S512x1 s2)
      (select (cmpi .eq k0_pay4 (broadcast S512x1 1#32)) (broadcast S512x1 s1)
        (select (cmpi .eq k0_pay4 (broadcast S512x1 0#32)) (broadcast S512x1 s0) (broadcast S512x1 (Scalar.ofBits (F := Ideal) .f32 0x00000000#32)))))

/-- The keys each row may see, the block's first key at `w`. -/
def MASK (w : BitVec 32) : IVec S128x384 1 :=
  andi (andi k0_pay3 (cmpi .sge (addi (broadcast S128x384 w) (iota .tc S128x384 32 [1] iota_S128x384_d1_w32)) (broadcast S128x384 0#32)))
    (cmpi .slt (addi (broadcast S128x384 w) (iota .tc S128x384 32 [1] iota_S128x384_d1_w32)) (broadcast S128x384 16384#32))

/-- The same keys for each of the four heads. -/
def MASK4 (w : BitVec 32) : IVec S512x384 1 :=
  concatenate S512x384 0 [⟨S128x384, MASK w⟩, ⟨S128x384, MASK w⟩, ⟨S128x384, MASK w⟩, ⟨S128x384, MASK w⟩] concatenates_S128x384_S128x384_S128x384_S128x384_S512x384_d0

/-- The four heads' queries, one under the other. -/
def Q4 (a b c d : FVec Ideal S128x128 .f32) : FVec Ideal S512x128 .f32 :=
  concatenate S512x128 0 [⟨S128x128, a⟩, ⟨S128x128, b⟩, ⟨S128x128, c⟩, ⟨S128x128, d⟩] concatenates_S128x128_S128x128_S128x128_S128x128_S512x128_d0

/-- The masked logits. -/
def LOGIT (o : Fin 2 → ℕ) (h : S768x128.Slices o S384x128) (mask : IVec S512x384 1) (q : FVec Ideal S512x128 .f32) (k : FVec Ideal S768x128 .bf16) : FVec Ideal S512x384 .f32 :=
  select mask
    (matmul dot_S512x128_S384x128_S512x384_1_1_0_0_n_n none (truncf .bf16 (mulf q (broadcast S512x128 (Scalar.ofBits (F := Ideal) .f32 0x3DB504F3#32))) bitsLt_bf16_f32)
      (extractStridedSlice S384x128 o k h) (constant S512x384 .f32 0x00000000#32))
    (broadcast S512x384 (Named.named κ "mask" 0xF149F2CA#32))

/-- Each row's largest logit, the sink among them. -/
def TOP (s : FVec Ideal S512x384 .f32) (sink : FVec Ideal S512x1 .f32) : FVec Ideal S512x1 .f32 :=
  maximumf (shapeCast S512x1 (multiReduction .maximumf [1] S512 s 0xFF800000#32 reduces_S512x384_S512 (.inl rfl) rfl) shapeCasts_S512_S512x1) sink

/-- The weights before they are divided. -/
def WT (s : FVec Ideal S512x384 .f32) (sink : FVec Ideal S512x1 .f32) : FVec Ideal S512x384 .f32 :=
  exp (subf s (broadcastTo S512x384 (TOP s sink) broadcasts_S512x1_S512x384))

/-- The attended values of the four heads. -/
def ATT (o : Fin 2 → ℕ) (h : S768x128.Slices o S384x128) (s : FVec Ideal S512x384 .f32) (sink : FVec Ideal S512x1 .f32) (v : FVec Ideal S768x128 .bf16) : FVec Ideal S512x128 .f32 :=
  divf (matmul dot_S512x384_S384x128_S512x128_1_0_0_1_n_n none (truncf .bf16 (WT s sink) bitsLt_bf16_f32) (extractStridedSlice S384x128 o v h) (constant S512x128 .f32 0x00000000#32))
    (broadcastTo S512x128 (addf (shapeCast S512x1 (multiReduction .add [1] S512 (WT s sink) 0x00000000#32 reduces_S512x384_S512 (.inl rfl) rfl) shapeCasts_S512_S512x1) (exp (subf sink (TOP s sink))))
      broadcasts_S512x1_S512x128)

/-- One head's share of the result: its attended values times its gate. -/
def GATED (o : Fin 2 → ℕ) (h : S512x128.Slices o S128x128) (a : FVec Ideal S512x128 .f32) (g : FVec Ideal S128x128 .bf16) : FVec Ideal S128x128 .bf16 :=
  truncf .bf16 (mulf (extractStridedSlice S128x128 o a h)
    (addf (mulf (broadcast S128x128 (Scalar.ofBits (F := Ideal) .f32 0x3F000000#32))
        (tanh (mulf (broadcast S128x128 (Scalar.ofBits (F := Ideal) .f32 0x3F000000#32)) (extf .f32 g bitsLt_bf16_f32))))
      (broadcast S128x128 (Scalar.ofBits (F := Ideal) .f32 0x3F000000#32)))) bitsLt_bf16_f32

/-- The keys a row of a block may see by distance. -/
def see (r s : ℕ) : BitVec 1 := IntOp.cmpi .sle (IntOp.absi (IntOp.subi (IntOp.subi (BitVec.ofNat 32 s) 128#32) (BitVec.ofNat 32 r))) 128#32

/-- The positions inside the sequence. -/
def inside (p : BitVec 32) : BitVec 1 := IntOp.andi (IntOp.cmpi .sge p 0#32) (IntOp.cmpi .slt p 16384#32)

/-- The rotated keys at an index. -/
theorem ka_at (c s : FVec Ideal S768x128 .f32) (k : FVec Ideal S768x128 .bf16) (j : Fin 768) (d : Fin 128) :
    KA c s k (ix2 j d) = k (ix2 j d) * c (ix2 j d) + k (ix2 j ⟨(d.val + 64) % 128, by omega⟩) * s (ix2 j d) := by
  pointwise [KA]
  have e : (d.val + 128 - 64) % 128 = (d.val + 64) % 128 := by omega
  simp only [e]

/-- The rotated queries at an index. -/
theorem qt_at (b : Fin 4) (h : S512x128.Slices ![b.val * 128, 0] S128x128) (cc sc : FVec Ideal S512x128 .f32) (q : FVec Ideal S128x128 .bf16) (r d : Fin 128) :
    QT ![b.val * 128, 0] h cc sc q (ix2 r d)
      = q (ix2 r d) * cc (ix2 ⟨b.val * 128 + r.val, by omega⟩ d) + q (ix2 r ⟨(d.val + 64) % 128, by omega⟩) * sc (ix2 ⟨b.val * 128 + r.val, by omega⟩ d) := by
  pointwise [QT]
  have e : (d.val + 128 - 64) % 128 = (d.val + 64) % 128 := by omega
  simp only [e]

/-- The rows a point sees at an index. -/
theorem rows_at {φ : FTy} (a : FVec Ideal S128x128 φ) (b : FVec Ideal S512x128 φ) (c : FVec Ideal S128x128 φ) (j : Fin 768) (d : Fin 128) :
    ROWS a b c (ix2 j d) = if h : j.val < 128 then a (ix2 ⟨j.val, h⟩ d)
      else if h' : j.val < 640 then b (ix2 ⟨j.val - 128, by omega⟩ d) else c (ix2 ⟨j.val - 640, by omega⟩ d) := by
  pointwise [ROWS]
  have hj := j.isLt
  by_cases h : j.val < 128
  · rw [dif_pos h, dif_pos h]
  · rw [dif_neg h, dif_neg h]
    by_cases h' : j.val < 640
    · rw [dif_pos (by omega), dif_pos h']
    · rw [dif_neg (by omega), dif_neg h']
      exact congrArg (fun x => c (ix2 x d)) (Fin.ext (by simp only []; omega))

/-- The group of a row. -/
theorem group_at (R : Fin 512) : k0_pay4 (ix2 R 0) = BitVec.ofNat 32 (R.val / 128) := by
  pointwise [k0_pay4]
  revert R
  decide +kernel

/-- The sink column at an index. -/
theorem sink_at (s : Fin 4 → Elt Ideal .f32) (e : Fin 4) (r : Fin 128) :
    SINK (s 0) (s 1) (s 2) (s 3) (ix2 ⟨e.val * 128 + r.val, by omega⟩ 0) = s e := by
  pointwise [SINK]
  rw [group_at]
  have h : (e.val * 128 + r.val) / 128 = e.val := by omega
  simp only [h]
  fin_cases e <;> rfl

/-- The keys a row may see at an index. -/
theorem mask_at (w : BitVec 32) (r : Fin 128) (s : Fin 384) :
    MASK w (ix2 r s) = IntOp.andi (see r.val s.val) (inside (IntOp.addi w (BitVec.ofNat 32 s.val))) := by
  pointwise [MASK, k0_pay3]
  exact BitVec.and_assoc _ _ _

/-- The keys a row of the four heads may see at an index. -/
theorem mask4_at (w : BitVec 32) (e : Fin 4) (r : Fin 128) (s : Fin 384) :
    MASK4 w (ix2 ⟨e.val * 128 + r.val, by omega⟩ s) = IntOp.andi (see r.val s.val) (inside (IntOp.addi w (BitVec.ofNat 32 s.val))) := by
  rw [← mask_at]
  pointwise [MASK4]
  fin_cases e
  · simp
  · simp
  · simp
    rw [dif_neg (by omega), dif_neg (by omega), dif_pos (by omega)]
    exact congrArg (fun x => MASK w (ix2 x s)) (Fin.ext (by simp only []; omega))
  · simp
    rw [dif_neg (by omega), dif_neg (by omega), dif_neg (by omega)]
    exact congrArg (fun x => MASK w (ix2 x s)) (Fin.ext (by simp only []; omega))

/-- The four heads' queries at an index. -/
theorem q4_at (a : Fin 4 → FVec Ideal S128x128 .f32) (e : Fin 4) (r : Fin 128) (d : Fin 128) :
    Q4 (a 0) (a 1) (a 2) (a 3) (ix2 ⟨e.val * 128 + r.val, by omega⟩ d) = a e (ix2 r d) := by
  pointwise [Q4]
  fin_cases e
  · simp
  · simp
  · simp
    rw [dif_neg (by omega), dif_neg (by omega), dif_pos (by omega)]
    exact congrArg (fun x => a 2 (ix2 x d)) (Fin.ext (by simp only []; omega))
  · simp
    rw [dif_neg (by omega), dif_neg (by omega), dif_neg (by omega)]
    exact congrArg (fun x => a 3 (ix2 x d)) (Fin.ext (by simp only []; omega))

/-- The mask's value. -/
theorem masked : (Named.named κ "mask" 0xF149F2CA#32 : Ideal .f32) = (⊥ : EReal) := by
  simp [Named.named, κ]

/-- The word of minus infinity. -/
theorem bot_word : Ideal.ofBits .f32 0xFF800000#32 = ⊥ := by
  simp [Ideal.ofBits, Ideal.ieee]

/-- The word of a half. -/
theorem half : Ideal.ofBits .f32 0x3F000000#32 = ((1 / 2 : ℝ) : EReal) := by
  simp [Ideal.ofBits, Ideal.ieee]
  rw [← EReal.coe_mul]
  norm_num

/-- The masked logits at an index. -/
theorem logit_at (b : Fin 4) (h : S768x128.Slices ![b.val * 128, 0] S384x128) (mask : IVec S512x384 1) (q : FVec Ideal S512x128 .f32) (k : FVec Ideal S768x128 .bf16) (R : Fin 512) (s : Fin 384) :
    LOGIT ![b.val * 128, 0] h mask q k (ix2 R s)
      = Scalar.select (mask (ix2 R s)) (∑ d : Fin 128, q (ix2 R d) * Ideal.ofBits .f32 0x3DB504F3#32 * k (ix2 ⟨b.val * 128 + s.val, by omega⟩ d)) ⊥ := by
  pointwise [LOGIT]
  rw [masked]

/-- The attended values at an index. -/
theorem att_at (b : Fin 4) (h : S768x128.Slices ![b.val * 128, 0] S384x128) (s : FVec Ideal S512x384 .f32) (sink : FVec Ideal S512x1 .f32) (v : FVec Ideal S768x128 .bf16) (R : Fin 512) (d : Fin 128) :
    ATT ![b.val * 128, 0] h s sink v (ix2 R d) = soft (fun k => s (ix2 R k)) (fun k => v (ix2 ⟨b.val * 128 + k.val, by omega⟩ d)) (sink (ix2 R 0)) := by
  pointwise [ATT, WT, TOP]
  rw [bot_word]
  rfl

/-- A head's share at an index. -/
theorem gated_at (e : Fin 4) (h : S512x128.Slices ![e.val * 128, 0] S128x128) (a : FVec Ideal S512x128 .f32) (g : FVec Ideal S128x128 .bf16) (r d : Fin 128) :
    GATED ![e.val * 128, 0] h a g (ix2 r d) = a (ix2 ⟨e.val * 128 + r.val, by omega⟩ d) * Ideal.logistic (g (ix2 r d)) := by
  pointwise [GATED]
  rw [half, Cert.M.logistic_eq]

end Cert.AttnIdeal.Tile

end
-- ==== Proof.AttnPieces.lean ====
/- The attention kernel's sixty-four stores, as one function of key head, block of queries and head. -/
module

public import proofs.«01_k».proof.Proof.Gen.AttnIdeal.Value
public import proofs.«01_k».proof.Proof.AttnTile
public import Idealize.ShloMosaic.Lib.Pipeline.ValueKit

@[expose] public section

set_option maxRecDepth 16384

noncomputable section

namespace Cert.AttnIdeal.Value

open Cert.AttnIdeal Cert.AttnIdeal.Gen Cert.AttnIdeal.Tile Idealize.ShloMosaic Idealize.ShloMosaic.TcCoe Idealize.SL.Sem Idealize.ShloMosaic.Pipeline

theorem halo_in (g : Fin 4) : ∀ a, (![0, g.val * 128] : Fin 2 → ℕ) a + (![128, 128] : Fin 2 → ℕ) a ≤ S128x512.size a := by
  intro a; fin_cases a
  · exact le_refl 128
  · show g.val * 128 + 128 ≤ 512; omega

theorem own_in (g : Fin 4) : ∀ a, (![0, g.val * 128] : Fin 2 → ℕ) a + (![512, 128] : Fin 2 → ℕ) a ≤ S512x512.size a := by
  intro a; fin_cases a
  · exact le_refl 512
  · show g.val * 128 + 128 ≤ 512; omega

theorem tile_in (b g e : Fin 4) : ∀ a, (![b.val * 128, (g.val * 4 + e.val) * 128] : Fin 2 → ℕ) a + (![128, 128] : Fin 2 → ℕ) a ≤ S512x2048.size a := by
  intro a; fin_cases a
  · show b.val * 128 + 128 ≤ 512; omega
  · show (g.val * 4 + e.val) * 128 + 128 ≤ 2048; omega

theorem sink_in (g e : Fin 4) : ∀ a, (![g.val * 4 + e.val] : Fin 1 → ℕ) a + (![1] : Fin 1 → ℕ) a ≤ S16.size a := by
  intro a; fin_cases a
  show g.val * 4 + e.val + 1 ≤ 16; omega

theorem win_in (b : Fin 4) : S768x128.Slices ![b.val * 128, 0] S384x128 := by
  revert b; decide

theorem rows_in (b : Fin 4) : S512x128.Slices ![b.val * 128, 0] S128x128 := by
  revert b; decide

/-- Key head `g`'s columns of a neighbouring block. -/
abbrev halo (x : FVec Ideal S128x512 .bf16) (g : Fin 4) : FVec Ideal S128x128 .bf16 := View.ld (Val := Elt Ideal) (S := S128x512) (e' := .bf16) x (Rect.unit ![0, g.val * 128] ![128, 128] (halo_in g))

/-- Key head `g`'s columns of the point's own blocks. -/
abbrev own (x : FVec Ideal S512x512 .bf16) (g : Fin 4) : FVec Ideal S512x128 .bf16 := View.ld (Val := Elt Ideal) (S := S512x512) (e' := .bf16) x (Rect.unit ![0, g.val * 128] ![512, 128] (own_in g))

/-- Head `e` of key head `g` in block `b`. -/
abbrev tile (x : FVec Ideal S512x2048 .bf16) (b g e : Fin 4) : FVec Ideal S128x128 .bf16 := View.ld (Val := Elt Ideal) (S := S512x2048) (e' := .bf16) x (Rect.unit ![b.val * 128, (g.val * 4 + e.val) * 128] ![128, 128] (tile_in b g e))

theorem one_in (g e : Fin 4) : 0 < (Rect.unit (s := S16) ![g.val * 4 + e.val] ![1] (sink_in g e)).shape.numel := by
  revert g e; decide +kernel

/-- The sink logit of head `e` of key head `g`. -/
abbrev snk (x : FVec Ideal S16 .f32) (g e : Fin 4) : Elt Ideal .f32 := View.ld (Val := Elt Ideal) (S := S16) (e' := .f32) x (Rect.unit ![g.val * 4 + e.val] ![1] (sink_in g e)) (Shape.Idx.first (one_in g e))

/-- What one grid point reads. -/
structure Args where
  w : BitVec 32
  sink : FVec Ideal S16 .f32
  q : FVec Ideal S512x2048 .bf16
  kp : FVec Ideal S128x512 .bf16
  kc : FVec Ideal S512x512 .bf16
  kn : FVec Ideal S128x512 .bf16
  vp : FVec Ideal S128x512 .bf16
  vc : FVec Ideal S512x512 .bf16
  vn : FVec Ideal S128x512 .bf16
  gate : FVec Ideal S512x2048 .bf16
  cc : FVec Ideal S512x128 .f32
  sc : FVec Ideal S512x128 .f32
  cp : FVec Ideal S128x128 .f32
  sp : FVec Ideal S128x128 .f32
  cn : FVec Ideal S128x128 .f32
  sn : FVec Ideal S128x128 .f32

/-- Key head `g`'s rotated keys. -/
def KEYS (x : Args) (g : Fin 4) : FVec Ideal S768x128 .bf16 := KA (ROWS x.cp x.cc x.cn) (ROWS x.sp x.sc x.sn) (ROWS (halo x.kp g) (own x.kc g) (halo x.kn g))

/-- Key head `g`'s values. -/
def VALS (x : Args) (g : Fin 4) : FVec Ideal S768x128 .bf16 := ROWS (halo x.vp g) (own x.vc g) (halo x.vn g)

/-- Key head `g`'s sink column. -/
def SINKS (x : Args) (g : Fin 4) : FVec Ideal S512x1 .f32 := SINK (snk x.sink g 0) (snk x.sink g 1) (snk x.sink g 2) (snk x.sink g 3)

/-- The four heads' rotated queries in block `b`. -/
def QUERIES (x : Args) (g b : Fin 4) : FVec Ideal S512x128 .f32 :=
  Q4 (QT ![b.val * 128, 0] (rows_in b) x.cc x.sc (tile x.q b g 0)) (QT ![b.val * 128, 0] (rows_in b) x.cc x.sc (tile x.q b g 1))
    (QT ![b.val * 128, 0] (rows_in b) x.cc x.sc (tile x.q b g 2)) (QT ![b.val * 128, 0] (rows_in b) x.cc x.sc (tile x.q b g 3))

/-- The first key a block of queries may see. -/
def first (w : BitVec 32) (b : Fin 4) : BitVec 32 := Scalar.muli (Scalar.subi (Scalar.addi (Scalar.muli w 4#32) (BitVec.ofNat 32 b.val)) 1#32) 128#32

/-- The masked logits of key head `g` in block `b`. -/
def LOGITS (x : Args) (g b : Fin 4) : FVec Ideal S512x384 .f32 := LOGIT ![b.val * 128, 0] (win_in b) (MASK4 (first x.w b)) (QUERIES x g b) (KEYS x g)

/-- The attended values of key head `g` in block `b`. -/
def ATTS (x : Args) (g b : Fin 4) : FVec Ideal S512x128 .f32 := ATT ![b.val * 128, 0] (win_in b) (LOGITS x g b) (SINKS x g) (VALS x g)

/-- What is stored for head `e` of key head `g` in block `b`. -/
def RES (x : Args) (g b e : Fin 4) : FVec Ideal S128x128 .bf16 := GATED ![e.val * 128, 0] (rows_in e) (ATTS x g b) (tile x.gate b g e)

/-- The store for head `e` of key head `g` in block `b`. -/
def piece (x : Args) (i : Fin 4 × Fin 4 × Fin 4) : View.Piece (Elt Ideal) S512x2048 .bf16 :=
  ⟨Rect.unit ![i.2.1.val * 128, (i.1.val * 4 + i.2.2.val) * 128] ![128, 128] (tile_in i.2.1 i.1 i.2.2), RES x i.1 i.2.1 i.2.2⟩

/-- The four stores of one block, the last first. -/
def quad (g b : Fin 4) : List (Fin 4 × Fin 4 × Fin 4) := [3, 2, 1, 0].map fun e => (g, b, e)

/-- The sixteen stores of one key head, the last first. -/
def head (g : Fin 4) : List (Fin 4 × Fin 4 × Fin 4) := quad g 3 ++ quad g 2 ++ quad g 1 ++ quad g 0

/-- All the stores, the last first. -/
def pieces (x : Args) : List (View.Piece (Elt Ideal) S512x2048 .bf16) := (head 3 ++ head 2 ++ head 1 ++ head 0).map (piece x)

/-- What a grid point reads. -/
def args (m : (ℓ : Loc nD τ sig) → Buf (Elt Ideal) ℓ) (c : Dev nD) (t : Fin cfg0.N) : Args where
  w := BitVec.ofNat 32 (grid0.coords t 0).val
  sink := iblk m c 0 t
  q := iblk m c 1 t
  kp := iblk m c 2 t
  kc := iblk m c 3 t
  kn := iblk m c 4 t
  vp := iblk m c 5 t
  vc := iblk m c 6 t
  vn := iblk m c 7 t
  gate := iblk m c 8 t
  cc := iblk m c 9 t
  sc := iblk m c 10 t
  cp := iblk m c 11 t
  sp := iblk m c 12 t
  cn := iblk m c 13 t
  sn := iblk m c 14 t

/-- A whole block of 512 rows as the body loads it. -/
abbrev big (v : View sig .tc .vmem S512x128 .f32) (f : v.ty.Contents (Elt Ideal)) : FVec Ideal S512x128 .f32 :=
  shapeCast S512x128 (View.ld (Val := Elt Ideal) (S := S512x128) (e' := .f32) (View.read (Elt Ideal) v f) (Rect.unit ![0, 0] ![512, 128] inb_S512x128_S512x128_0_0)) shapeCasts_S512x128_S512x128

/-- A whole block of 128 rows as the body loads it. -/
abbrev small (v : View sig .tc .vmem S128x128 .f32) (f : v.ty.Contents (Elt Ideal)) : FVec Ideal S128x128 .f32 :=
  shapeCast S128x128 (View.ld (Val := Elt Ideal) (S := S128x128) (e' := .f32) (View.read (Elt Ideal) v f) (Rect.unit ![0, 0] ![128, 128] inb_S128x128_S128x128_0_0)) shapeCasts_S128x128_S128x128

/-- What a grid point reads, as the body's loads spell it. -/
def loaded (m : (ℓ : Loc nD τ sig) → Buf (Elt Ideal) ℓ) (c : Dev nD) (t : Fin cfg0.N) : Args where
  w := BitVec.ofNat 32 (grid0.coords t 0).val
  sink := View.read (Elt Ideal) (ms0_0 t).view ((hs0_0 t).unread (iblk m c 0 t))
  q := View.read (Elt Ideal) (ms0_1 t).view ((hs0_1 t).unread (iblk m c 1 t))
  kp := View.read (Elt Ideal) (ms0_2 t).view ((hs0_2 t).unread (iblk m c 2 t))
  kc := View.read (Elt Ideal) (ms0_3 t).view ((hs0_3 t).unread (iblk m c 3 t))
  kn := View.read (Elt Ideal) (ms0_4 t).view ((hs0_4 t).unread (iblk m c 4 t))
  vp := View.read (Elt Ideal) (ms0_5 t).view ((hs0_5 t).unread (iblk m c 5 t))
  vc := View.read (Elt Ideal) (ms0_6 t).view ((hs0_6 t).unread (iblk m c 6 t))
  vn := View.read (Elt Ideal) (ms0_7 t).view ((hs0_7 t).unread (iblk m c 7 t))
  gate := View.read (Elt Ideal) (ms0_8 t).view ((hs0_8 t).unread (iblk m c 8 t))
  cc := big (ms0_9 t).view ((hs0_9 t).unread (iblk m c 9 t))
  sc := big (ms0_10 t).view ((hs0_10 t).unread (iblk m c 10 t))
  cp := small (ms0_11 t).view ((hs0_11 t).unread (iblk m c 11 t))
  sp := small (ms0_12 t).view ((hs0_12 t).unread (iblk m c 12 t))
  cn := small (ms0_13 t).view ((hs0_13 t).unread (iblk m c 13 t))
  sn := small (ms0_14 t).view ((hs0_14 t).unread (iblk m c 14 t))

/-- The body's stores, the last first. -/
def stores (m : (ℓ : Loc nD τ sig) → Buf (Elt Ideal) ℓ) (c : Dev nD) (t : Fin cfg0.N) : List (View.Piece (Elt Ideal) S512x2048 .bf16) :=
  (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)).1

theorem stores_eq (m : (ℓ : Loc nD τ sig) → Buf (Elt Ideal) ℓ) (c : Dev nD) (t : Fin cfg0.N) : stores m c t = pieces (loaded m c t) := by
  sl_kernel_rfl

/-- The loads read the blocks. -/
theorem loaded_eq (m : (ℓ : Loc nD τ sig) → Buf (Elt Ideal) ℓ) (c : Dev nD) (t : Fin cfg0.N) : loaded m c t = args m c t := by
  have hb (v : View sig .tc .vmem S512x128 .f32) (f : v.ty.Contents (Elt Ideal)) : big v f = View.read (Elt Ideal) v f := by
    show shapeCast S512x128 _ _ = _
    rw [View.ld_unit_zero (S := S512x128) (off := ![0, 0]) (by funext a; fin_cases a <;> rfl) inb_S512x128_S512x128_0_0 _]
    funext i
    obtain ⟨a, b, rfl⟩ : ∃ (a : Fin 512) (b : Fin 128), i = ix2 a b := ⟨i 0, i 1, by funext k; fin_cases k <;> rfl⟩
    pointwise
  have hs (v : View sig .tc .vmem S128x128 .f32) (f : v.ty.Contents (Elt Ideal)) : small v f = View.read (Elt Ideal) v f := by
    show shapeCast S128x128 _ _ = _
    rw [View.ld_unit_zero (S := S128x128) (off := ![0, 0]) (by funext a; fin_cases a <;> rfl) inb_S128x128_S128x128_0_0 _]
    funext i
    obtain ⟨a, b, rfl⟩ : ∃ (a : Fin 128) (b : Fin 128), i = ix2 a b := ⟨i 0, i 1, by funext k; fin_cases k <;> rfl⟩
    pointwise
  unfold loaded args
  simp only [hb, hs, Memref.IsWhole.read_unread]

/-- The result after a grid point, from the blocks. -/
theorem out15 (m : (ℓ : Loc nD τ sig) → Buf (Elt Ideal) ℓ) (c : Dev nD) (t : Fin cfg0.N) : (dats m 0 c).after 15 t = View.canon (pieces (args m c t)) := by
  rw [after0_15]
  unfold outsAt0
  unfold out0_A_15
  refine (View.read_writes_junk_eq_canon _ _).trans ?_
  rw [← loaded_eq, ← stores_eq]
  rfl

end Cert.AttnIdeal.Value
end
-- ==== Proof.AttnBlocks.lean ====
/- The attention kernel's blocks: which rows and columns of the arrays each grid point reads. -/
module

public import proofs.«01_k».proof.Proof.AttnPieces

@[expose] public section

set_option maxRecDepth 16384

noncomputable section

namespace Cert.AttnIdeal.Value

open Cert.AttnIdeal Cert.AttnIdeal.Gen Cert.AttnIdeal.Tile Idealize.ShloMosaic Idealize.ShloMosaic.TcCoe Idealize.SL.Sem Idealize.ShloMosaic.Pipeline

/-- The blocks a grid point reads and writes. -/
theorem idx : ∀ t : Fin cfg0.N, (grid0.coords t 0).val = t.val ∧ win0_0.index t = ![0] ∧ win0_1.index t = ![t.val, 0]
    ∧ win0_2.index t = ![4 * t.val - 1, 24] ∧ win0_3.index t = ![t.val, 24] ∧ win0_4.index t = ![min (4 * (t.val + 1)) 127, 24]
    ∧ win0_5.index t = ![4 * t.val - 1, 25] ∧ win0_6.index t = ![t.val, 25] ∧ win0_7.index t = ![min (4 * (t.val + 1)) 127, 25]
    ∧ win0_8.index t = ![t.val, 1] ∧ win0_9.index t = ![t.val, 0] ∧ win0_10.index t = ![t.val, 0]
    ∧ win0_11.index t = ![4 * t.val - 1, 0] ∧ win0_12.index t = ![4 * t.val - 1, 0]
    ∧ win0_13.index t = ![min (4 * (t.val + 1)) 127, 0] ∧ win0_14.index t = ![min (4 * (t.val + 1)) 127, 0] ∧ win0_15.index t = ![t.val, 0] :=
  (by decide +kernel : ∀ t : Fin grid0.N, _)

/-- The array of cosines the host lays out: the table twice. -/
theorem cos_at (m : (ℓ : Loc nD τ sig) → Buf (Elt Ideal) ℓ) (c : Dev nD) (R : Fin 16384) (d : Fin 128) :
    (V m c main_v0 : FVec Ideal S16384x128 .f32) (ix2 R d) = m ((c : Thread nD τ).loc main_arg2) (ix2 R ⟨d.val % 64, by omega⟩) := by
  entry_read
  pointwise
  split
  · exact congrArg (fun k => m (c, Proc.tc.devRef main_arg2) (ix2 R k)) (Fin.ext (by simp only []; omega))
  · exact congrArg (fun k => m (c, Proc.tc.devRef main_arg2) (ix2 R k)) (Fin.ext (by simp only []; omega))

/-- An entry of a table of sines laid out twice, the first copy negated. -/
def turn (x : FVec Ideal S16384x64 .f32) (R : Fin 16384) (d : Fin 128) : EReal := if d.val < 64 then -x (ix2 R ⟨d.val % 64, by omega⟩) else x (ix2 R ⟨d.val % 64, by omega⟩)

/-- The array of sines the host lays out. -/
theorem sin_at (m : (ℓ : Loc nD τ sig) → Buf (Elt Ideal) ℓ) (c : Dev nD) (R : Fin 16384) (d : Fin 128) :
    (V m c main_v2 : FVec Ideal S16384x128 .f32) (ix2 R d) = turn (m ((c : Thread nD τ).loc main_arg3)) R d := by
  entry_read
  pointwise
  unfold turn
  by_cases h : d.val < 64
  · rw [dif_pos h, if_pos h]
    exact congrArg (fun k => -(show EReal from m (c, Proc.tc.devRef main_arg3) (ix2 R k))) (Fin.ext (by simp only []; omega))
  · rw [dif_neg h, if_neg h]
    exact congrArg (fun k => m (c, Proc.tc.devRef main_arg3) (ix2 R k)) (Fin.ext (by simp only []; omega))

section Reads

variable (m : (ℓ : Loc nD τ sig) → Buf (Elt Ideal) ℓ) (c : Dev nD) (t : Fin cfg0.N) (ht : t.val < 32)

theorem sink_read (h : Fin 16) : (iblk m c 0 t : FVec Ideal S16 .f32) (ix1 h) = m ((c : Thread nD τ).loc main_arg1) (ix1 h) := by
  blk_ext [iblk, V, idx t]

theorem q_read (r : Fin 512) (k : Fin 2048) : (iblk m c 1 t : FVec Ideal S512x2048 .bf16) (ix2 r k) = m ((c : Thread nD τ).loc main_arg0) (ix2 ⟨t.val * 512 + r.val, by omega⟩ ⟨k.val, by omega⟩) := by
  blk_ext [iblk, V, idx t]

theorem kp_read (r : Fin 128) (k : Fin 512) : (iblk m c 2 t : FVec Ideal S128x512 .bf16) (ix2 r k) = m ((c : Thread nD τ).loc main_arg0) (ix2 ⟨(4 * t.val - 1) * 128 + r.val, by omega⟩ ⟨12288 + k.val, by omega⟩) := by
  blk_ext [iblk, V, idx t]

theorem kc_read (r k : Fin 512) : (iblk m c 3 t : FVec Ideal S512x512 .bf16) (ix2 r k) = m ((c : Thread nD τ).loc main_arg0) (ix2 ⟨t.val * 512 + r.val, by omega⟩ ⟨12288 + k.val, by omega⟩) := by
  blk_ext [iblk, V, idx t]

theorem kn_read (r : Fin 128) (k : Fin 512) : (iblk m c 4 t : FVec Ideal S128x512 .bf16) (ix2 r k) = m ((c : Thread nD τ).loc main_arg0) (ix2 ⟨min (4 * (t.val + 1)) 127 * 128 + r.val, by omega⟩ ⟨12288 + k.val, by omega⟩) := by
  blk_ext [iblk, V, idx t]

theorem vp_read (r : Fin 128) (k : Fin 512) : (iblk m c 5 t : FVec Ideal S128x512 .bf16) (ix2 r k) = m ((c : Thread nD τ).loc main_arg0) (ix2 ⟨(4 * t.val - 1) * 128 + r.val, by omega⟩ ⟨12800 + k.val, by omega⟩) := by
  blk_ext [iblk, V, idx t]

theorem vc_read (r k : Fin 512) : (iblk m c 6 t : FVec Ideal S512x512 .bf16) (ix2 r k) = m ((c : Thread nD τ).loc main_arg0) (ix2 ⟨t.val * 512 + r.val, by omega⟩ ⟨12800 + k.val, by omega⟩) := by
  blk_ext [iblk, V, idx t]

theorem vn_read (r : Fin 128) (k : Fin 512) : (iblk m c 7 t : FVec Ideal S128x512 .bf16) (ix2 r k) = m ((c : Thread nD τ).loc main_arg0) (ix2 ⟨min (4 * (t.val + 1)) 127 * 128 + r.val, by omega⟩ ⟨12800 + k.val, by omega⟩) := by
  blk_ext [iblk, V, idx t]

theorem gate_read (r : Fin 512) (k : Fin 2048) : (iblk m c 8 t : FVec Ideal S512x2048 .bf16) (ix2 r k) = m ((c : Thread nD τ).loc main_arg0) (ix2 ⟨t.val * 512 + r.val, by omega⟩ ⟨2048 + k.val, by omega⟩) := by
  blk_ext [iblk, V, idx t]

theorem cc_read (r : Fin 512) (k : Fin 128) : (iblk m c 9 t : FVec Ideal S512x128 .f32) (ix2 r k) = (V m c main_v0 : FVec Ideal S16384x128 .f32) (ix2 ⟨t.val * 512 + r.val, by omega⟩ k) := by
  blk_ext [iblk, idx t]

theorem sc_read (r : Fin 512) (k : Fin 128) : (iblk m c 10 t : FVec Ideal S512x128 .f32) (ix2 r k) = (V m c main_v2 : FVec Ideal S16384x128 .f32) (ix2 ⟨t.val * 512 + r.val, by omega⟩ k) := by
  blk_ext [iblk, idx t]

theorem cp_read (r k : Fin 128) : (iblk m c 11 t : FVec Ideal S128x128 .f32) (ix2 r k) = (V m c main_v0 : FVec Ideal S16384x128 .f32) (ix2 ⟨(4 * t.val - 1) * 128 + r.val, by omega⟩ k) := by
  blk_ext [iblk, idx t]

theorem sp_read (r k : Fin 128) : (iblk m c 12 t : FVec Ideal S128x128 .f32) (ix2 r k) = (V m c main_v2 : FVec Ideal S16384x128 .f32) (ix2 ⟨(4 * t.val - 1) * 128 + r.val, by omega⟩ k) := by
  blk_ext [iblk, idx t]

theorem cn_read (r k : Fin 128) : (iblk m c 13 t : FVec Ideal S128x128 .f32) (ix2 r k) = (V m c main_v0 : FVec Ideal S16384x128 .f32) (ix2 ⟨min (4 * (t.val + 1)) 127 * 128 + r.val, by omega⟩ k) := by
  blk_ext [iblk, idx t]

theorem sn_read (r k : Fin 128) : (iblk m c 14 t : FVec Ideal S128x128 .f32) (ix2 r k) = (V m c main_v2 : FVec Ideal S16384x128 .f32) (ix2 ⟨min (4 * (t.val + 1)) 127 * 128 + r.val, by omega⟩ k) := by
  blk_ext [iblk, idx t]

end Reads

end Cert.AttnIdeal.Value

end
-- ==== Proof.AttnPos.lean ====
/- Positions in the sequence: the kernel's words and the reference's are the same, and a word inside the sequence is a row of it. -/
module

public import proofs.«01_k».proof.Proof.AttnTile

@[expose] public section

set_option maxRecDepth 100000

namespace Cert.AttnIdeal.Tile

open Cert.AttnIdeal Cert.AttnIdeal.Gen Idealize.ShloMosaic

/-- A position counted from a block before the sequence is inside it only between its ends. -/
theorem inside_of : ∀ p : Fin 16768, inside (BitVec.ofNat 32 p.val - 128#32) = 1#1 → 128 ≤ p.val ∧ p.val < 16512 := by
  decide +kernel

/-- A key inside the sequence is one of its rows. -/
theorem inside_at (n : Fin 128) (s : Fin 384) (h : inside (IntOp.addi (IntOp.subi (IntOp.muli (BitVec.ofNat 32 n.val) 128#32) 128#32) (BitVec.ofNat 32 s.val)) = 1#1) :
    128 ≤ n.val * 128 + s.val ∧ n.val * 128 + s.val < 16512 := by
  refine inside_of ⟨n.val * 128 + s.val, by omega⟩ (Eq.trans (congrArg inside ?_) h)
  show BitVec.ofNat 32 (n.val * 128 + s.val) - 128#32 = BitVec.ofNat 32 n.val * 128#32 - 128#32 + BitVec.ofNat 32 s.val
  rw [BitVec.ofNat_add, BitVec.ofNat_mul, BitVec.sub_eq_add_neg, BitVec.sub_eq_add_neg, BitVec.add_assoc, BitVec.add_assoc, BitVec.add_comm (BitVec.ofNat 32 s.val)]

/-- The kernel's first key of a block of queries is the reference's. -/
theorem first_eq : ∀ (t : Fin 32) (b : Fin 4),
    Scalar.muli (Scalar.subi (Scalar.addi (Scalar.muli (BitVec.ofNat 32 t.val) 4#32) (BitVec.ofNat 32 b.val)) 1#32) 128#32
      = IntOp.subi (IntOp.muli (BitVec.ofNat 32 (4 * t.val + b.val)) 128#32) 128#32 := by
  decide +kernel

end Cert.AttnIdeal.Tile
-- ==== Proof.AttnPre.lean ====
/- The attention's precondition, entry by entry: queries, keys, tables and sink logits are real. -/
module

public import proofs.«01_k».proof.Defs
public import proofs.«01_k».proof.Proof.Gen.Pre_finite_scores
public import Idealize.ShloMosaic.Lib.Pointwise

@[expose] public section

set_option maxRecDepth 16384

noncomputable section

namespace Cert.Pre_finite_scores

open Cert.Pre_finite_scores Cert.Pre_finite_scores.Gen Idealize.ShloMosaic Idealize.ShloMosaic.TcCoe

/-- A number whose absolute value is below infinity is real. -/
theorem real_of (x : EReal) (h : x ≠ ⊤) (h' : x ≠ ⊥) : ∃ r : ℝ, x = r := by
  induction x with
  | bot => exact absurd rfl h'
  | top => exact absurd rfl h
  | coe r => exact ⟨r, rfl⟩

/-- The word of +∞. -/
theorem top_word : Ideal.ofBits .f32 0x7F800000#32 = (⊤ : EReal) := by
  simp [Ideal.ofBits, Ideal.ieee]

/-- A number that passes the test is real. -/
theorem real_of_test (a : Ideal .f32) (h : BitVec.ofBool (decide (FloatOps.absf (F := Ideal) (φ := .f32) a < Ideal.ofBits .f32 0x7F800000#32)) = 1#1) : ∃ r : ℝ, (a : EReal) = r := by
  have h' : FloatOps.absf (F := Ideal) (φ := .f32) a < Ideal.ofBits .f32 0x7F800000#32 := by
    by_contra hn
    rw [decide_eq_false hn] at h
    exact absurd h (by decide)
  rw [top_word] at h'
  refine real_of a ?_ ?_
  · rintro rfl
    simp [FloatOps.absf] at h'
  · rintro rfl
    simp [FloatOps.absf] at h'

/-- Queries, keys, tables and sink logits are real. -/
structure Reals (x : FVec Ideal S16384x14336 .bf16) (sink : FVec Ideal S16 .f32) (cos sin : FVec Ideal S16384x64 .f32) : Prop where
  q : ∀ (R : Fin 16384) (k : Fin 2048), ∃ r : ℝ, (x (ix2 R ⟨k.val, by omega⟩) : EReal) = r
  k : ∀ (R : Fin 16384) (k : Fin 512), ∃ r : ℝ, (x (ix2 R ⟨12288 + k.val, by omega⟩) : EReal) = r
  c : ∀ (R : Fin 16384) (k : Fin 64), ∃ r : ℝ, (cos (ix2 R k) : EReal) = r
  s : ∀ (R : Fin 16384) (k : Fin 64), ∃ r : ℝ, (sin (ix2 R k) : EReal) = r
  σ : ∀ h : Fin 16, ∃ r : ℝ, (sink (ix1 h) : EReal) = r

/-- What the precondition says. -/
theorem reals_of (x : FVec Ideal S16384x14336 .bf16) (sink : FVec Ideal S16 .f32) (cos sin : FVec Ideal S16384x64 .f32) (h : fn (F := Ideal) x sink cos sin = fun _ => 1#1) : Reals x sink cos sin := by
  have key : ∀ (R : Fin 16384) (j : Fin 2704), ∃ r : ℝ, ((if h : j.val < 2048 then x (ix2 R ⟨j.val, by omega⟩)
      else if h : j.val - 2048 < 512 then x (ix2 R ⟨12288 + (j.val - 2048), by omega⟩)
      else if h : j.val - 2048 - 512 < 64 then cos (ix2 R ⟨j.val - 2048 - 512, h⟩)
      else if h : j.val - 2048 - 512 - 64 < 64 then sin (ix2 R ⟨j.val - 2048 - 512 - 64, h⟩)
      else sink (ix1 ⟨j.val - 2048 - 512 - 64 - 64, by omega⟩) : Ideal .f32) : EReal) = r := by
    intro R j
    have e := congrFun h (ix2 R j)
    pointwise [fn] at e
    exact real_of_test _ e
  refine ⟨fun R k => ?_, fun R k => ?_, fun R k => ?_, fun R k => ?_, fun h => ?_⟩
  · have e := key R ⟨k.val, by omega⟩
    rw [dif_pos k.isLt] at e
    exact e
  · have e := key R ⟨2048 + k.val, by omega⟩
    rw [dif_neg (by simp only []; omega), dif_pos (by simp only []; omega)] at e
    have i : (⟨12288 + (2048 + k.val - 2048), by omega⟩ : Fin 14336) = ⟨12288 + k.val, by omega⟩ := Fin.ext (by simp only []; omega)
    rw [← i]
    exact e
  · have e := key R ⟨2560 + k.val, by omega⟩
    rw [dif_neg (by simp only []; omega), dif_neg (by simp only []; omega), dif_pos (by simp only []; omega)] at e
    have i : (⟨2560 + k.val - 2048 - 512, by omega⟩ : Fin 64) = k := Fin.ext (by simp only []; omega)
    rw [← i]
    exact e
  · have e := key R ⟨2624 + k.val, by omega⟩
    rw [dif_neg (by simp only []; omega), dif_neg (by simp only []; omega), dif_neg (by simp only []; omega), dif_pos (by simp only []; omega)] at e
    have i : (⟨2624 + k.val - 2048 - 512 - 64, by omega⟩ : Fin 64) = k := Fin.ext (by simp only []; omega)
    rw [← i]
    exact e
  · have e := key 0 ⟨2688 + h.val, by omega⟩
    rw [dif_neg (by simp only []; omega), dif_neg (by simp only []; omega), dif_neg (by simp only []; omega), dif_neg (by simp only []; omega)] at e
    have i : (⟨2688 + h.val - 2048 - 512 - 64 - 64, by omega⟩ : Fin 16) = h := Fin.ext (by simp only []; omega)
    rw [← i]
    exact e

end Cert.Pre_finite_scores

end
-- ==== Proof.AttnRef.lean ====
/- The stages of the attention's reference: the rotation, the windows of keys and values, the masked logits, the softmax with its sink and the gate. -/
module

public import proofs.«01_k».proof.Defs
public import proofs.«01_k».proof.Proof.Gen.AttnRefIdeal.Run
public import proofs.«01_k».proof.Proof.M.Attend
public import Idealize.ShloMosaic.Lib.Pipeline.ValueKit

@[expose] public section

set_option maxRecDepth 16384

noncomputable section

namespace Cert.AttnRefIdeal.Value

open Cert.AttnRefIdeal Cert.AttnRefIdeal.Gen Idealize.ShloMosaic Idealize.ShloMosaic.TcCoe Idealize.SL.Sem Idealize.ShloMosaic.StableHlo Cert.M.Attend

/-- The rotated queries. -/
def QR (x : FVec Ideal S16384x4x4x128 .f32) (cos sin : FVec Ideal S16384x64 .f32) : FVec Ideal S16384x4x4x128 .f32 :=
  concatenate S16384x4x4x128 3 [
    ⟨S16384x4x4x64, subf (mulf (extractStridedSlice S16384x4x4x64 ![0, 0, 0, 0] x slices_S16384x4x4x128_S16384x4x4x64_0_0_0_0) (broadcastInDim S16384x4x4x64 ![0, 1, 2, 3] bcast_S16384x1x1x64_S16384x4x4x64_0_1_2_3 (broadcastInDim S16384x1x1x64 ![0, 3] bcast_S16384x64_S16384x1x1x64_0_3 cos)))
      (mulf (extractStridedSlice S16384x4x4x64 ![0, 0, 0, 64] x slices_S16384x4x4x128_S16384x4x4x64_0_0_0_64) (broadcastInDim S16384x4x4x64 ![0, 1, 2, 3] bcast_S16384x1x1x64_S16384x4x4x64_0_1_2_3 (broadcastInDim S16384x1x1x64 ![0, 3] bcast_S16384x64_S16384x1x1x64_0_3 sin)))⟩,
    ⟨S16384x4x4x64, addf (mulf (extractStridedSlice S16384x4x4x64 ![0, 0, 0, 64] x slices_S16384x4x4x128_S16384x4x4x64_0_0_0_64) (broadcastInDim S16384x4x4x64 ![0, 1, 2, 3] bcast_S16384x1x1x64_S16384x4x4x64_0_1_2_3 (broadcastInDim S16384x1x1x64 ![0, 3] bcast_S16384x64_S16384x1x1x64_0_3 cos)))
      (mulf (extractStridedSlice S16384x4x4x64 ![0, 0, 0, 0] x slices_S16384x4x4x128_S16384x4x4x64_0_0_0_0) (broadcastInDim S16384x4x4x64 ![0, 1, 2, 3] bcast_S16384x1x1x64_S16384x4x4x64_0_1_2_3 (broadcastInDim S16384x1x1x64 ![0, 3] bcast_S16384x64_S16384x1x1x64_0_3 sin)))⟩]
    concatenates_S16384x4x4x64_S16384x4x4x64_S16384x4x4x128_d3

/-- The rotated keys. -/
def KR (x : FVec Ideal S16384x4x128 .f32) (cos sin : FVec Ideal S16384x64 .f32) : FVec Ideal S16384x4x128 .f32 :=
  concatenate S16384x4x128 2 [
    ⟨S16384x4x64, subf (mulf (extractStridedSlice S16384x4x64 ![0, 0, 0] x slices_S16384x4x128_S16384x4x64_0_0_0) (broadcastInDim S16384x4x64 ![0, 1, 2] bcast_S16384x1x64_S16384x4x64_0_1_2 (broadcastInDim S16384x1x64 ![0, 2] bcast_S16384x64_S16384x1x64_0_2 cos)))
      (mulf (extractStridedSlice S16384x4x64 ![0, 0, 64] x slices_S16384x4x128_S16384x4x64_0_0_64) (broadcastInDim S16384x4x64 ![0, 1, 2] bcast_S16384x1x64_S16384x4x64_0_1_2 (broadcastInDim S16384x1x64 ![0, 2] bcast_S16384x64_S16384x1x64_0_2 sin)))⟩,
    ⟨S16384x4x64, addf (mulf (extractStridedSlice S16384x4x64 ![0, 0, 64] x slices_S16384x4x128_S16384x4x64_0_0_64) (broadcastInDim S16384x4x64 ![0, 1, 2] bcast_S16384x1x64_S16384x4x64_0_1_2 (broadcastInDim S16384x1x64 ![0, 2] bcast_S16384x64_S16384x1x64_0_2 cos)))
      (mulf (extractStridedSlice S16384x4x64 ![0, 0, 0] x slices_S16384x4x128_S16384x4x64_0_0_0) (broadcastInDim S16384x4x64 ![0, 1, 2] bcast_S16384x1x64_S16384x4x64_0_1_2 (broadcastInDim S16384x1x64 ![0, 2] bcast_S16384x64_S16384x1x64_0_2 sin)))⟩]
    concatenates_S16384x4x64_S16384x4x64_S16384x4x128_d2

/-- The rows with a block of zeros before and after, in blocks. -/
def PADDED (x : FVec Ideal S16384x4x128 .f32) : FVec Ideal S130x128x4x128 .f32 :=
  shapeCast _ (pad S16640x4x128 ![128, 0, 0] ![128, 0, 0] ![0, 0, 0] x (sitofp .f32 (constantI S_ 32 0#32)) pads_S16384x4x128_S16640x4x128_1281280_000_000 h_S_) shapeCasts_S16640x4x128_S130x128x4x128

/-- Each block with its two neighbours. -/
def WINDOW (x : FVec Ideal S16384x4x128 .f32) : FVec Ideal S128x384x4x128 .f32 :=
  concatenate S128x384x4x128 1 [⟨S128x128x4x128, extractStridedSlice S128x128x4x128 ![0, 0, 0, 0] (PADDED x) slices_S130x128x4x128_S128x128x4x128_0_0_0_0⟩,
    ⟨S128x128x4x128, extractStridedSlice S128x128x4x128 ![1, 0, 0, 0] (PADDED x) slices_S130x128x4x128_S128x128x4x128_1_0_0_0⟩,
    ⟨S128x128x4x128, extractStridedSlice S128x128x4x128 ![2, 0, 0, 0] (PADDED x) slices_S130x128x4x128_S128x128x4x128_2_0_0_0⟩] concatenates_S128x128x4x128_S128x128x4x128_S128x128x4x128_S128x384x4x128_d1

/-- The keys in reach by distance. -/
def NEAR : IVec S128x384 1 :=
  cmpi .sle (absi (subi (broadcastInDim S128x384 ![0, 1] bcast_S1x384_S128x384_0_1 (subi (broadcastInDim S1x384 ![1] bcast_S384_S1x384_1 (iotaInDim S384 32 0)) (broadcastInDim S1x384 ![] bcast_S_S1x384 (constantI S_ 32 128#32)))) (broadcastInDim S128x384 ![0, 1] bcast_S128x1_S128x384_0_1 (broadcastInDim S128x1 ![0] bcast_S128_S128x1_0 (iotaInDim S128 32 0))))) (broadcastInDim S128x384 ![] bcast_S_S128x384 (constantI S_ 32 128#32))

/-- The keys' positions. -/
def POS : IVec S128x384 32 :=
  addi (broadcastInDim S128x384 ![0, 1] bcast_S128x1_S128x384_0_1 (subi (muli (broadcastInDim S128x1 ![0] bcast_S128_S128x1_0 (iotaInDim S128 32 0)) (broadcastInDim S128x1 ![] bcast_S_S128x1 (constantI S_ 32 128#32))) (broadcastInDim S128x1 ![] bcast_S_S128x1 (constantI S_ 32 128#32)))) (broadcastInDim S128x384 ![0, 1] bcast_S1x384_S128x384_0_1 (broadcastInDim S1x384 ![1] bcast_S384_S1x384_1 (iotaInDim S384 32 0)))

/-- The keys each query may see. -/
def SEES : IVec S128x128x384 1 :=
  andi (broadcastInDim S128x128x384 ![0, 1, 2] bcast_S1x128x384_S128x128x384_0_1_2 (broadcastInDim S1x128x384 ![1, 2] bcast_S128x384_S1x128x384_1_2 NEAR))
    (broadcastInDim S128x128x384 ![0, 1, 2] bcast_S128x1x384_S128x128x384_0_1_2 (broadcastInDim S128x1x384 ![0, 2] bcast_S128x384_S128x1x384_0_2
      (andi (cmpi .sge POS (broadcastInDim S128x384 ![] bcast_S_S128x384 (constantI S_ 32 0#32))) (cmpi .slt POS (broadcastInDim S128x384 ![] bcast_S_S128x384 (constantI S_ 32 16384#32))))))

/-- The masked logits. -/
def LOGITS (q : FVec Ideal S16384x4x4x128 .f32) (k : FVec Ideal S128x384x4x128 .f32) : FVec Ideal S128x4x4x128x384 .f32 :=
  select (broadcastInDim S128x4x4x128x384 ![0, 1, 2, 3, 4] bcast_S128x1x1x128x384_S128x4x4x128x384_0_1_2_3_4 (broadcastInDim S128x1x1x128x384 ![0, 3, 4] bcast_S128x128x384_S128x1x1x128x384_0_3_4 SEES))
    (mulf (transpose S128x4x4x128x384 [0, 1, 4, 3, 2] (Host.dotGeneral dot_S128x384x4x128_S128x128x4x4x128_S128x4x384x128x4_3_4_1_13_02_02 none k (shapeCast _ q shapeCasts_S16384x4x4x128_S128x128x4x4x128)) transposes_S128x4x384x128x4_S128x4x4x128x384_0_1_4_3_2)
      (broadcastInDim S128x4x4x128x384 ![] bcast_S_S128x4x4x128x384 (constant S_ .f32 0x3DB504F3#32)))
    (broadcastInDim S128x4x4x128x384 ![] bcast_S_S128x4x4x128x384 (id (constant S_ .f32 0xFF800000#32)))

/-- The logits with the sink's behind them. -/
def WITHSINK (l : FVec Ideal S128x4x4x128x384 .f32) (sink : FVec Ideal S16 .f32) : FVec Ideal S128x4x4x128x385 .f32 :=
  concatenate S128x4x4x128x385 4 [⟨S128x4x4x128x384, l⟩, ⟨S128x4x4x128x1, broadcastInDim S128x4x4x128x1 ![0, 1, 2, 3, 4] bcast_S1x4x4x1x1_S128x4x4x128x1_0_1_2_3_4 (broadcastInDim S1x4x4x1x1 ![1, 2] bcast_S4x4_S1x4x4x1x1_1_2 (shapeCast _ sink shapeCasts_S16_S4x4))⟩] concatenates_S128x4x4x128x384_S128x4x4x128x1_S128x4x4x128x385_d4

/-- The rows' largest logits. -/
def TOPS (l : FVec Ideal S128x4x4x128x385 .f32) : FVec Ideal S128x4x4x128 .f32 :=
  maximumf (broadcastInDim S128x4x4x128 ![] bcast_S_S128x4x4x128 (constant S_ .f32 0xFF800000#32)) (Host.reduce FloatOps.maximumf l (constant S_ .f32 0xFF800000#32) reducesTo_S128x4x4x128x385_S128x4x4x128_d4 h_S_)

/-- The exponentials of the logits less `top`. -/
def EXPS (l : FVec Ideal S128x4x4x128x385 .f32) (top : FVec Ideal S128x4x4x128 .f32) : FVec Ideal S128x4x4x128x385 .f32 :=
  Host.exp (subf l (broadcastInDim S128x4x4x128x385 ![0, 1, 2, 3, 4] bcast_S128x4x4x128x1_S128x4x4x128x385_0_1_2_3_4 (broadcastInDim S128x4x4x128x1 ![0, 1, 2, 3] bcast_S128x4x4x128_S128x4x4x128x1_0_1_2_3 top)))

/-- The softmax's weights before they are divided. -/
def WEIGHTS (l : FVec Ideal S128x4x4x128x385 .f32) : FVec Ideal S128x4x4x128x385 .f32 := EXPS l (TOPS l)

/-- The weights of the values. -/
def PROBS (x : FVec Ideal S128x4x4x128x385 .f32) : FVec Ideal S128x4x4x128x384 .f32 :=
  extractStridedSlice S128x4x4x128x384 ![0, 0, 0, 0, 0] (Host.divf x (broadcastInDim S128x4x4x128x385 ![0, 1, 2, 3, 4] bcast_S128x4x4x128x1_S128x4x4x128x385_0_1_2_3_4 (broadcastInDim S128x4x4x128x1 ![0, 1, 2, 3] bcast_S128x4x4x128_S128x4x4x128x1_0_1_2_3
    (Host.reduceAdd x (constant S_ .f32 0x00000000#32) reducesTo_S128x4x4x128x385_S128x4x4x128_d4 h_S_)))) slices_S128x4x4x128x385_S128x4x4x128x384_0_0_0_0_0

/-- The attended values, heads side by side. -/
def HEADS (v : FVec Ideal S128x384x4x128 .f32) (p : FVec Ideal S128x4x4x128x384 .f32) : FVec Ideal S16384x2048 .f32 :=
  shapeCast _ (transpose S128x128x4x4x128 [0, 4, 1, 3, 2] (Host.dotGeneral dot_S128x384x4x128_S128x4x4x128x384_S128x4x128x4x128_1_4_3_23_02_01 none v p) transposes_S128x4x128x4x128_S128x128x4x4x128_0_4_1_3_2) shapeCasts_S128x128x4x4x128_S16384x2048

/-- The gated result. -/
def GATED (gate a : FVec Ideal S16384x2048 .f32) : FVec Ideal S16384x2048 .bf16 :=
  truncf .bf16 (mulf (Host.divf (broadcastInDim S16384x2048 ![] bcast_S_S16384x2048 (constant S_ .f32 0x3F800000#32)) (addf (broadcastInDim S16384x2048 ![] bcast_S_S16384x2048 (constant S_ .f32 0x3F800000#32)) (Host.exp (Host.negf gate)))) a) bitsLt_bf16_f32

/-- The columns as numbers of f32. -/
def COLS (x : FVec Ideal S16384x14336 .bf16) : FVec Ideal S16384x14336 .f32 := extf .f32 x bitsLt_bf16_f32

/-- The queries of the arguments. -/
def Q (x : FVec Ideal S16384x14336 .bf16) : FVec Ideal S16384x4x4x128 .f32 := shapeCast _ (extractStridedSlice S16384x2048 ![0, 0] (COLS x) slices_S16384x14336_S16384x2048_0_0) shapeCasts_S16384x2048_S16384x4x4x128

/-- The keys of the arguments. -/
def K (x : FVec Ideal S16384x14336 .bf16) : FVec Ideal S16384x4x128 .f32 := shapeCast _ (extractStridedSlice S16384x512 ![0, 12288] (COLS x) slices_S16384x14336_S16384x512_0_12288) shapeCasts_S16384x512_S16384x4x128

/-- The values of the arguments. -/
def V (x : FVec Ideal S16384x14336 .bf16) : FVec Ideal S16384x4x128 .f32 := shapeCast _ (extractStridedSlice S16384x512 ![0, 12800] (COLS x) slices_S16384x14336_S16384x512_0_12800) shapeCasts_S16384x512_S16384x4x128

/-- The gate's logits of the arguments. -/
def G (x : FVec Ideal S16384x14336 .bf16) : FVec Ideal S16384x2048 .f32 := extractStridedSlice S16384x2048 ![0, 2048] (COLS x) slices_S16384x14336_S16384x2048_0_2048

/-- The result of the arguments. -/
def OUT (x : FVec Ideal S16384x14336 .bf16) (sink : FVec Ideal S16 .f32) (cos sin : FVec Ideal S16384x64 .f32) : FVec Ideal S16384x2048 .bf16 :=
  GATED (G x) (HEADS (WINDOW (V x)) (PROBS (WEIGHTS (WITHSINK (LOGITS (QR (Q x) cos sin) (WINDOW (KR (K x) cos sin))) sink))))

/-- The run's result is the one spelled here. -/
theorem res_eq (m : (ℓ : Loc nD τ sig) → Buf (Elt Ideal) ℓ) (c : Dev nD) :
    res_out0 m c = OUT (m ((c.tc : Thread nD τ).loc main_arg0)) (m ((c.tc : Thread nD τ).loc main_arg1)) (m ((c.tc : Thread nD τ).loc main_arg2)) (m ((c.tc : Thread nD τ).loc main_arg3)) := rfl

end Cert.AttnRefIdeal.Value

end
-- ==== Proof.AttnRefAt.lean ====
/- The stages of the attention's reference, each read at an index. -/
module

public import proofs.«01_k».proof.Defs
public import proofs.«01_k».proof.Proof.AttnRef
public import proofs.«01_k».proof.Proof.M.Attend
public import Idealize.ShloMosaic.Lib.Pipeline.ValueKit

@[expose] public section

set_option maxRecDepth 16384

noncomputable section

namespace Cert.AttnRefIdeal.Value

open Cert.AttnRefIdeal Cert.AttnRefIdeal.Gen Idealize.ShloMosaic Idealize.ShloMosaic.TcCoe Idealize.SL.Sem Idealize.ShloMosaic.StableHlo Cert.M.Attend

/-- The queries at an index. -/
theorem q_at (x : FVec Ideal S16384x14336 .bf16) (R : Fin 16384) (g e : Fin 4) (d : Fin 128) : Q x (ix4 R g e d) = x (ix2 R ⟨(g.val * 4 + e.val) * 128 + d.val, by omega⟩) := by
  pointwise [Q, COLS]
  refine congrArg x ?_
  idx_ext

/-- The keys at an index. -/
theorem k_at (x : FVec Ideal S16384x14336 .bf16) (R : Fin 16384) (g : Fin 4) (d : Fin 128) : K x (ix3 R g d) = x (ix2 R ⟨12288 + (g.val * 128 + d.val), by omega⟩) := by
  pointwise [K, COLS]

/-- The values at an index. -/
theorem v_at (x : FVec Ideal S16384x14336 .bf16) (R : Fin 16384) (g : Fin 4) (d : Fin 128) : V x (ix3 R g d) = x (ix2 R ⟨12800 + (g.val * 128 + d.val), by omega⟩) := by
  pointwise [V, COLS]

/-- The rotated queries at an index. -/
theorem qr_at (x : FVec Ideal S16384x4x4x128 .f32) (cos sin : FVec Ideal S16384x64 .f32) (R : Fin 16384) (g e : Fin 4) (d : Fin 128) :
    QR x cos sin (ix4 R g e d) = if h : d.val < 64 then x (ix4 R g e d) * cos (ix2 R ⟨d.val, h⟩) - x (ix4 R g e ⟨64 + d.val, by omega⟩) * sin (ix2 R ⟨d.val, h⟩)
      else x (ix4 R g e d) * cos (ix2 R ⟨d.val - 64, by omega⟩) + x (ix4 R g e ⟨d.val - 64, by omega⟩) * sin (ix2 R ⟨d.val - 64, by omega⟩) := by
  pointwise [QR]
  split
  · rfl
  · have e : 64 + (d.val - 64) = d.val := by omega
    simp only [e]

/-- The rotated keys at an index. -/
theorem kr_at (x : FVec Ideal S16384x4x128 .f32) (cos sin : FVec Ideal S16384x64 .f32) (R : Fin 16384) (g : Fin 4) (d : Fin 128) :
    KR x cos sin (ix3 R g d) = if h : d.val < 64 then x (ix3 R g d) * cos (ix2 R ⟨d.val, h⟩) - x (ix3 R g ⟨64 + d.val, by omega⟩) * sin (ix2 R ⟨d.val, h⟩)
      else x (ix3 R g d) * cos (ix2 R ⟨d.val - 64, by omega⟩) + x (ix3 R g ⟨d.val - 64, by omega⟩) * sin (ix2 R ⟨d.val - 64, by omega⟩) := by
  pointwise [KR]
  split
  · rfl
  · have e : 64 + (d.val - 64) = d.val := by omega
    simp only [e]

/-- A window's rows inside the sequence. -/
theorem window_at (x : FVec Ideal S16384x4x128 .f32) (n : Fin 128) (s : Fin 384) (g : Fin 4) (d : Fin 128) (h : 128 ≤ n.val * 128 + s.val) (h' : n.val * 128 + s.val < 16512) :
    WINDOW x (ix4 n s g d) = x (ix3 ⟨n.val * 128 + s.val - 128, by omega⟩ g d) := by
  pointwise [WINDOW, PADDED]
  have hs : s.val < 384 := s.isLt
  by_cases h1 : s.val < 128
  · rw [dif_pos h1, dif_pos ⟨h, by omega⟩]
  · rw [dif_neg h1]
    by_cases h2 : s.val - 128 < 128
    · rw [dif_pos h2, dif_pos ⟨by omega, by omega⟩]
      exact congrArg (fun i => x (ix3 i g d)) (Fin.ext (by simp only []; omega))
    · rw [dif_neg h2, dif_pos ⟨by omega, by omega⟩]
      exact congrArg (fun i => x (ix3 i g d)) (Fin.ext (by simp only []; omega))

/-- What a query may see at an index. -/
theorem sees_at (n r : Fin 128) (s : Fin 384) :
    SEES (ix3 n r s) = IntOp.andi (IntOp.cmpi .sle (IntOp.absi (IntOp.subi (IntOp.subi (BitVec.ofNat 32 s) 128#32) (BitVec.ofNat 32 r))) 128#32)
      (IntOp.andi (IntOp.cmpi .sge (IntOp.addi (IntOp.subi (IntOp.muli (BitVec.ofNat 32 n) 128#32) 128#32) (BitVec.ofNat 32 s)) 0#32)
        (IntOp.cmpi .slt (IntOp.addi (IntOp.subi (IntOp.muli (BitVec.ofNat 32 n) 128#32) 128#32) (BitVec.ofNat 32 s)) 16384#32)) := by
  pointwise [SEES, NEAR, POS]

/-- The masked logits at an index. -/
theorem logits_at (q : FVec Ideal S16384x4x4x128 .f32) (k : FVec Ideal S128x384x4x128 .f32) (n r : Fin 128) (g e : Fin 4) (s : Fin 384) :
    LOGITS q k (ix5 n g e r s) = Scalar.select (SEES (ix3 n r s)) ((∑ d : Fin 128, k (ix4 n s g d) * q (ix4 ⟨n.val * 128 + r.val, by omega⟩ g e d)) * Ideal.ofBits .f32 0x3DB504F3#32) (Ideal.ofBits .f32 0xFF800000#32) := by
  pointwise [LOGITS]
  rfl

/-- The logits with the sink at an index. -/
theorem withsink_at (l : FVec Ideal S128x4x4x128x384 .f32) (sink : FVec Ideal S16 .f32) (n r : Fin 128) (g e : Fin 4) (s : Fin 385) :
    WITHSINK l sink (ix5 n g e r s) = if h : s.val < 384 then l (ix5 n g e r ⟨s.val, h⟩) else sink (ix1 ⟨g.val * 4 + e.val, by omega⟩) := by
  pointwise [WITHSINK]

/-- The attended values at an index. -/
theorem heads_at (v : FVec Ideal S128x384x4x128 .f32) (p : FVec Ideal S128x4x4x128x384 .f32) (n r : Fin 128) (g e : Fin 4) (d : Fin 128) :
    HEADS v p (ix2 ⟨n.val * 128 + r.val, by omega⟩ ⟨(g.val * 4 + e.val) * 128 + d.val, by omega⟩) = ∑ s : Fin 384, v (ix4 n s g d) * p (ix5 n g e r s) := by
  pointwise [HEADS]

/-- The weights at an index. -/
theorem probs_at (x : FVec Ideal S128x4x4x128x385 .f32) (n r : Fin 128) (g e : Fin 4) (s : Fin 384) :
    PROBS x (ix5 n g e r s) = Ideal.div (x (ix5 n g e r ⟨s.val, by omega⟩)) (∑ k : Fin 385, x (ix5 n g e r k)) := by
  pointwise [PROBS]

/-- A maximum over axes is the maximum over the indices that drop to it. -/
theorem reduce_max {s t u : Shape} {axes : List (Fin s.rank)} (x : FVec Ideal s .f32) (init : u.Idx → EReal) (h : s.ReducesTo axes t) (hu : 0 < u.numel) (j : t.Idx) :
    Host.reduce (FloatOps.maximumf (F := Ideal) (φ := .f32)) x init h hu j = (Finset.univ.filter fun i => h.drop i = j).fold max (init (Shape.Idx.first hu)) x :=
  Host.reduce_eq_fold (max : EReal → EReal → EReal) x init h hu j

/-- The largest logit of a row. -/
theorem rowmax_at (l : FVec Ideal S128x4x4x128x385 .f32) (n r : Fin 128) (g e : Fin 4) :
    Host.reduce (FloatOps.maximumf (F := Ideal) (φ := .f32)) l (constant S_ .f32 0xFF800000#32) reducesTo_S128x4x4x128x385_S128x4x4x128_d4 h_S_ (ix4 n g e r) = Finset.univ.fold max (Ideal.ofBits .f32 0xFF800000#32) fun k : Fin 385 => l (ix5 n g e r k) := by
  refine (reduce_max _ _ _ _ _).trans ?_
  pointwise

/-- The word of −∞. -/
theorem bot_word : Ideal.ofBits .f32 0xFF800000#32 = (⊥ : EReal) := by
  simp [Ideal.ofBits, Ideal.ieee]

/-- The rows' largest logits at an index. -/
theorem tops_at (l : FVec Ideal S128x4x4x128x385 .f32) (n r : Fin 128) (g e : Fin 4) :
    TOPS l (ix4 n g e r) = Finset.univ.fold max ⊥ fun k : Fin 385 => l (ix5 n g e r k) := by
  have hm := rowmax_at l n r g e
  rw [bot_word] at hm
  unfold TOPS
  refine (maximumf_apply _ _ _).trans ?_
  rw [hm]
  exact max_eq_right ((le_of_eq bot_word).trans bot_le)

/-- The exponentials at an index. -/
theorem exps_at (l : FVec Ideal S128x4x4x128x385 .f32) (top : FVec Ideal S128x4x4x128 .f32) (n r : Fin 128) (g e : Fin 4) (s : Fin 385) :
    EXPS l top (ix5 n g e r s) = Ideal.exp (l (ix5 n g e r s) - top (ix4 n g e r)) := by
  pointwise [EXPS]

/-- The softmax's weights before they are divided, at an index. -/
theorem weights_at (l : FVec Ideal S128x4x4x128x385 .f32) (n r : Fin 128) (g e : Fin 4) (s : Fin 385) :
    WEIGHTS l (ix5 n g e r s) = Ideal.exp (l (ix5 n g e r s) - Finset.univ.fold max ⊥ fun k : Fin 385 => l (ix5 n g e r k)) := by
  unfold WEIGHTS
  rw [exps_at, tops_at]

/-- The gated result at an index. -/
theorem gated_at (gate a : FVec Ideal S16384x2048 .f32) (i : S16384x2048.Idx) : GATED gate a i = Ideal.logistic (gate i) * a i := by
  pointwise [GATED]
  rfl

end Cert.AttnRefIdeal.Value

end
-- ==== Proof.M.Rope.lean ====
/- The rotation of a head's entries by a position's cosines and sines. -/
module

public import proofs.«01_k».proof.Proof.M.Softmax

@[expose] public section

noncomputable section

open Idealize.ShloMosaic

namespace Cert.M.Rope

/-- Entry `d` of the rotated head: each entry times its cosine, plus the entry half a head away times the sine, the sine negated in the first half. -/
def rot (x : Fin 128 → EReal) (c s : Fin 64 → EReal) (d : Fin 128) : EReal :=
  x d * c ⟨d.val % 64, by omega⟩ + x ⟨(d.val + 64) % 128, by omega⟩ * (if d.val < 64 then -s ⟨d.val % 64, by omega⟩ else s ⟨d.val % 64, by omega⟩)

/-- The rotation, half by half. -/
theorem rot_halves (x : Fin 128 → EReal) (c s : Fin 64 → EReal) (d : Fin 128) :
    rot x c s d = if h : d.val < 64 then x d * c ⟨d.val, h⟩ - x ⟨64 + d.val, by omega⟩ * s ⟨d.val, h⟩
      else x d * c ⟨d.val - 64, by omega⟩ + x ⟨d.val - 64, by omega⟩ * s ⟨d.val - 64, by omega⟩ := by
  unfold rot
  by_cases h : d.val < 64
  · have e1 : d.val % 64 = d.val := by omega
    have e2 : (d.val + 64) % 128 = 64 + d.val := by omega
    rw [dif_pos h, if_pos h]
    simp only [e1, e2]
    rw [mul_neg, sub_eq_add_neg]
  · have e1 : d.val % 64 = d.val - 64 := by omega
    have e2 : (d.val + 64) % 128 = d.val - 64 := by omega
    rw [dif_neg h, if_neg h]
    simp only [e1, e2]

/-- The rotation of real entries by real tables is real. -/
theorem rot_real (x : Fin 128 → EReal) (c s : Fin 64 → EReal) (hx : ∀ d, ∃ r : ℝ, x d = r) (hc : ∀ d, ∃ r : ℝ, c d = r) (hs : ∀ d, ∃ r : ℝ, s d = r) (d : Fin 128) :
    ∃ r : ℝ, rot x c s d = r := by
  unfold rot
  obtain ⟨a, ha⟩ := hx d
  obtain ⟨b, hb⟩ := hc ⟨d.val % 64, by omega⟩
  obtain ⟨a', ha'⟩ := hx ⟨(d.val + 64) % 128, by omega⟩
  obtain ⟨b', hb'⟩ := hs ⟨d.val % 64, by omega⟩
  rw [ha, hb, ha', hb']
  split
  · exact ⟨a * b + a' * (-b'), by push_cast; rfl⟩
  · exact ⟨a * b + a' * b', by push_cast; rfl⟩

/-- A sum of products of reals is real. -/
theorem dot_real {n : ℕ} (f g : Fin n → EReal) (hf : ∀ d, ∃ r : ℝ, f d = r) (hg : ∀ d, ∃ r : ℝ, g d = r) : ∃ r : ℝ, ∑ d, f d * g d = r := by
  choose a ha using hf
  choose b hb using hg
  refine ⟨∑ d, a d * b d, ?_⟩
  simp only [ha, hb, ← EReal.coe_mul]
  exact (map_sum (⟨⟨Real.toEReal, rfl⟩, EReal.coe_add⟩ : ℝ →+ EReal) _ _).symm

end Cert.M.Rope

end
-- ==== Proof.AttnValue.lean ====
/- The attention: every block of the result is the reference's, from the rotated queries and keys through the masked logits, the softmax with its sink and the gate. -/
module

public import proofs.«01_k».proof.Defs
public import proofs.«01_k».proof.Proof.AttnBlocks
public import proofs.«01_k».proof.Proof.AttnPos
public import proofs.«01_k».proof.Proof.AttnPre
public import proofs.«01_k».proof.Proof.AttnRefAt
public import proofs.«01_k».proof.Proof.M.Rope
public import Idealize.ShloMosaic.Lib.Pipeline.ValueKit

@[expose] public section

set_option maxRecDepth 16384

noncomputable section

namespace Cert.AttnRefIdeal.Value

open Cert.AttnRefIdeal Cert.AttnRefIdeal.Gen Idealize.ShloMosaic Idealize.ShloMosaic.TcCoe Idealize.SL.Sem Cert.M.Attend Cert.M.Rope

/-- The rotated queries of the columns at an index. -/
theorem qrot_at (x : FVec Ideal S16384x14336 .bf16) (cos sin : FVec Ideal S16384x64 .f32) (R : Fin 16384) (g e : Fin 4) (d : Fin 128) :
    QR (Q x) cos sin (ix4 R g e d) = rot (fun k => x (ix2 R ⟨(g.val * 4 + e.val) * 128 + k.val, by omega⟩)) (fun k => cos (ix2 R k)) (fun k => sin (ix2 R k)) d := by
  rw [qr_at, rot_halves]
  simp only [q_at]

/-- The rotated keys of the columns at an index. -/
theorem krot_at (x : FVec Ideal S16384x14336 .bf16) (cos sin : FVec Ideal S16384x64 .f32) (R : Fin 16384) (g : Fin 4) (d : Fin 128) :
    KR (K x) cos sin (ix3 R g d) = rot (fun k => x (ix2 R ⟨12288 + (g.val * 128 + k.val), by omega⟩)) (fun k => cos (ix2 R k)) (fun k => sin (ix2 R k)) d := by
  rw [kr_at, rot_halves]
  simp only [k_at]

/-- The masked logits of the arguments. -/
def SCORES (x : FVec Ideal S16384x14336 .bf16) (cos sin : FVec Ideal S16384x64 .f32) : FVec Ideal S128x4x4x128x384 .f32 :=
  LOGITS (QR (Q x) cos sin) (WINDOW (KR (K x) cos sin))

/-- The result of the arguments at an index. -/
theorem out_at (x : FVec Ideal S16384x14336 .bf16) (sink : FVec Ideal S16 .f32) (cos sin : FVec Ideal S16384x64 .f32) (n r : Fin 128) (g e : Fin 4) (d : Fin 128) :
    OUT x sink cos sin (ix2 ⟨n.val * 128 + r.val, by omega⟩ ⟨(g.val * 4 + e.val) * 128 + d.val, by omega⟩)
      = Ideal.logistic (x (ix2 ⟨n.val * 128 + r.val, by omega⟩ ⟨2048 + ((g.val * 4 + e.val) * 128 + d.val), by omega⟩))
        * softWeights (fun s : Fin 384 => SCORES x cos sin (ix5 n g e r s)) (fun s => WINDOW (V x) (ix4 n s g d)) (sink (ix1 ⟨g.val * 4 + e.val, by omega⟩)) := by
  unfold OUT
  refine (gated_at _ _ _).trans ?_
  rw [heads_at]
  refine congrArg₂ (· * ·) ?_ ?_
  · refine congrArg Ideal.logistic ?_
    pointwise [G, COLS]
  · have h : ∀ s : Fin 385, WITHSINK (SCORES x cos sin) sink (ix5 n g e r s) = _ := fun s => withsink_at _ sink n r g e s
    have h1 : ∀ s : Fin 384, WITHSINK (SCORES x cos sin) sink (ix5 n g e r s.castSucc) = SCORES x cos sin (ix5 n g e r s) := fun s => (h s.castSucc).trans (dif_pos s.isLt)
    have h2 : WITHSINK (SCORES x cos sin) sink (ix5 n g e r (Fin.last 384)) = sink (ix1 ⟨g.val * 4 + e.val, by omega⟩) := (h (Fin.last 384)).trans (dif_neg (lt_irrefl 384))
    have w := weights_last (fun s : Fin 385 => WITHSINK (SCORES x cos sin) sink (ix5 n g e r s)) (fun s : Fin 384 => WINDOW (V x) (ix4 n s g d))
    rw [h2] at w
    simp only [h1] at w
    rw [← w]
    refine Finset.sum_congr rfl fun s _ => ?_
    rw [probs_at]
    simp only [weights_at]
    rw [← h1]
    rfl

/-- The masked logits of the arguments at an index. -/
theorem scores_at (x : FVec Ideal S16384x14336 .bf16) (cos sin : FVec Ideal S16384x64 .f32) (n r : Fin 128) (g e : Fin 4) (s : Fin 384) :
    SCORES x cos sin (ix5 n g e r s) = Scalar.select (SEES (ix3 n r s))
      ((∑ d : Fin 128, WINDOW (KR (K x) cos sin) (ix4 n s g d) * QR (Q x) cos sin (ix4 ⟨n.val * 128 + r.val, by omega⟩ g e d)) * Ideal.ofBits .f32 0x3DB504F3#32) ⊥ := by
  unfold SCORES
  rw [logits_at, bot_word]

end Cert.AttnRefIdeal.Value

namespace Cert.AttnIdeal.Value

open Cert.AttnIdeal Cert.AttnIdeal.Gen Cert.AttnIdeal.Tile Idealize.ShloMosaic Idealize.ShloMosaic.TcCoe Idealize.SL.Sem Idealize.ShloMosaic.Pipeline Cert.M.Attend Cert.M.Rope

/-- A neighbour's columns of a key head at an index. -/
theorem halo_at (x : FVec Ideal S128x512 .bf16) (g : Fin 4) (r d : Fin 128) : halo x g (ix2 r d) = x (ix2 r ⟨g.val * 128 + d.val, by omega⟩) := by
  have e0 : (Rect.unit ![0, g.val * 128] ![128, 128] (halo_in g)).emb (ix2 r d) = (ix2 r ⟨g.val * 128 + d.val, by omega⟩ : S128x512.Idx) := by
    blk_ext
  exact congrArg x e0

/-- The own blocks' columns of a key head at an index. -/
theorem own_at (x : FVec Ideal S512x512 .bf16) (g : Fin 4) (r : Fin 512) (d : Fin 128) : own x g (ix2 r d) = x (ix2 r ⟨g.val * 128 + d.val, by omega⟩) := by
  have e0 : (Rect.unit ![0, g.val * 128] ![512, 128] (own_in g)).emb (ix2 r d) = (ix2 r ⟨g.val * 128 + d.val, by omega⟩ : S512x512.Idx) := by
    blk_ext
  exact congrArg x e0

/-- Where a head's tile lies in a block. -/
theorem tile_emb (b g e : Fin 4) (r d : Fin 128) :
    (Rect.unit (s := S512x2048) ![b.val * 128, (g.val * 4 + e.val) * 128] ![128, 128] (tile_in b g e)).emb (ix2 r d) = (ix2 ⟨b.val * 128 + r.val, by omega⟩ ⟨(g.val * 4 + e.val) * 128 + d.val, by omega⟩ : S512x2048.Idx) := by
  blk_ext

/-- A head's tile at an index. -/
theorem tile_at (x : FVec Ideal S512x2048 .bf16) (b g e : Fin 4) (r d : Fin 128) : tile x b g e (ix2 r d) = x (ix2 ⟨b.val * 128 + r.val, by omega⟩ ⟨(g.val * 4 + e.val) * 128 + d.val, by omega⟩) :=
  congrArg x (tile_emb b g e r d)

/-- A head's sink logit. -/
theorem snk_at (x : FVec Ideal S16 .f32) (g e : Fin 4) : snk x g e = x (ix1 ⟨g.val * 4 + e.val, by omega⟩) := by
  refine congrArg x ?_
  funext a
  fin_cases a
  refine Fin.ext ?_
  show g.val * 4 + e.val + 1 * ((Shape.Idx.first (one_in g e)) 0).val = g.val * 4 + e.val
  have h : ((Shape.Idx.first (one_in g e)) 0).val < 1 := ((Shape.Idx.first (one_in g e)) 0).isLt
  omega

/-- The rows a point sees are the array's, where the position is inside the sequence. -/
theorem rows_of {φ : FTy} (a : FVec Ideal S128x128 φ) (o : FVec Ideal S512x128 φ) (z : FVec Ideal S128x128 φ) (F : Fin 16384 → EReal) (t : ℕ) (ht : t < 32) (d : Fin 128)
    (ha : ∀ r : Fin 128, a (ix2 r d) = F ⟨(4 * t - 1) * 128 + r.val, by omega⟩) (ho : ∀ r : Fin 512, o (ix2 r d) = F ⟨t * 512 + r.val, by omega⟩)
    (hz : ∀ r : Fin 128, z (ix2 r d) = F ⟨min (4 * (t + 1)) 127 * 128 + r.val, by omega⟩) (b : Fin 4) (s : Fin 384)
    (h : 128 ≤ (4 * t + b.val) * 128 + s.val) (h' : (4 * t + b.val) * 128 + s.val < 16512) :
    ROWS a o z (ix2 ⟨b.val * 128 + s.val, by omega⟩ d) = F ⟨(4 * t + b.val) * 128 + s.val - 128, by omega⟩ := by
  rw [rows_at]
  have hb : b.val < 4 := b.isLt
  have hs : s.val < 384 := s.isLt
  by_cases h1 : b.val * 128 + s.val < 128
  · rw [dif_pos h1, ha]
    exact congrArg F (Fin.ext (by simp only []; omega))
  · rw [dif_neg h1]
    by_cases h2 : b.val * 128 + s.val < 640
    · rw [dif_pos h2, ho]
      exact congrArg F (Fin.ext (by simp only []; omega))
    · rw [dif_neg h2, hz]
      exact congrArg F (Fin.ext (by simp only []; omega))

/-- The word of the scale, a real above zero. -/
theorem scale_word : ∃ r : ℝ, 0 ≤ r ∧ Ideal.ofBits .f32 0x3DB504F3#32 = (r : EReal) := by
  refine ⟨11863283 * (2 : ℝ) ^ (-27 : ℤ), by positivity, ?_⟩
  simp [Ideal.ofBits, Ideal.ieee]
  try rw [← EReal.coe_mul]
  try norm_num

section Point

variable (m : (ℓ : Loc nD τ sig) → Buf (Elt Ideal) ℓ) (c : Dev nD) (t : Fin cfg0.N) (ht : t.val < 32)

/-- The columns, the cosines, the sines and the sink logits in memory. -/
abbrev X : FVec Ideal S16384x14336 .bf16 := m ((c : Thread nD τ).loc main_arg0)
abbrev COS : FVec Ideal S16384x64 .f32 := m ((c : Thread nD τ).loc main_arg2)
abbrev SIN : FVec Ideal S16384x64 .f32 := m ((c : Thread nD τ).loc main_arg3)
abbrev SNK : FVec Ideal S16 .f32 := m ((c : Thread nD τ).loc main_arg1)

include ht

/-- The cosines of a point at a position of the sequence. -/
theorem coss_at (b : Fin 4) (s : Fin 384) (d : Fin 128) (h : 128 ≤ (4 * t.val + b.val) * 128 + s.val) (h' : (4 * t.val + b.val) * 128 + s.val < 16512) :
    ROWS (args m c t).cp (args m c t).cc (args m c t).cn (ix2 ⟨b.val * 128 + s.val, by omega⟩ d) = COS m c (ix2 ⟨(4 * t.val + b.val) * 128 + s.val - 128, by omega⟩ ⟨d.val % 64, by omega⟩) :=
  rows_of _ _ _ (fun R => COS m c (ix2 R ⟨d.val % 64, by omega⟩)) t.val ht d
    (fun r => (cp_read m c t ht r d).trans (cos_at m c _ d)) (fun r => (cc_read m c t ht r d).trans (cos_at m c _ d)) (fun r => (cn_read m c t ht r d).trans (cos_at m c _ d)) b s h h'

/-- The signed sines of a point at a position of the sequence. -/
theorem sins_at (b : Fin 4) (s : Fin 384) (d : Fin 128) (h : 128 ≤ (4 * t.val + b.val) * 128 + s.val) (h' : (4 * t.val + b.val) * 128 + s.val < 16512) :
    ROWS (args m c t).sp (args m c t).sc (args m c t).sn (ix2 ⟨b.val * 128 + s.val, by omega⟩ d) = turn (SIN m c) ⟨(4 * t.val + b.val) * 128 + s.val - 128, by omega⟩ d :=
  rows_of _ _ _ (fun R => turn (SIN m c) R d) t.val ht d
    (fun r => (sp_read m c t ht r d).trans (sin_at m c _ d)) (fun r => (sc_read m c t ht r d).trans (sin_at m c _ d)) (fun r => (sn_read m c t ht r d).trans (sin_at m c _ d)) b s h h'

/-- The rotated keys of a point at a position of the sequence. -/
theorem keys_at (g b : Fin 4) (s : Fin 384) (d : Fin 128) (h : 128 ≤ (4 * t.val + b.val) * 128 + s.val) (h' : (4 * t.val + b.val) * 128 + s.val < 16512) :
    KEYS (args m c t) g (ix2 ⟨b.val * 128 + s.val, by omega⟩ d)
      = rot (fun k => X m c (ix2 ⟨(4 * t.val + b.val) * 128 + s.val - 128, by omega⟩ ⟨12288 + (g.val * 128 + k.val), by omega⟩))
          (fun k => COS m c (ix2 ⟨(4 * t.val + b.val) * 128 + s.val - 128, by omega⟩ k)) (fun k => SIN m c (ix2 ⟨(4 * t.val + b.val) * 128 + s.val - 128, by omega⟩ k)) d := by
  unfold KEYS
  rw [ka_at]
  have hk : ∀ d : Fin 128, ROWS (halo (args m c t).kp g) (own (args m c t).kc g) (halo (args m c t).kn g) (ix2 ⟨b.val * 128 + s.val, by omega⟩ d)
      = X m c (ix2 ⟨(4 * t.val + b.val) * 128 + s.val - 128, by omega⟩ ⟨12288 + (g.val * 128 + d.val), by omega⟩) := fun d =>
    rows_of _ _ _ (fun R => X m c (ix2 R ⟨12288 + (g.val * 128 + d.val), by omega⟩)) t.val ht d
      (fun r => (halo_at _ g r d).trans (kp_read m c t ht r _)) (fun r => (own_at _ g r d).trans (kc_read m c t ht r _)) (fun r => (halo_at _ g r d).trans (kn_read m c t ht r _)) b s h h'
  rw [hk, hk, coss_at m c t ht b s d h h', sins_at m c t ht b s d h h']
  rfl

/-- The values of a point at a position of the sequence. -/
theorem vals_at (g b : Fin 4) (s : Fin 384) (d : Fin 128) (h : 128 ≤ (4 * t.val + b.val) * 128 + s.val) (h' : (4 * t.val + b.val) * 128 + s.val < 16512) :
    VALS (args m c t) g (ix2 ⟨b.val * 128 + s.val, by omega⟩ d) = X m c (ix2 ⟨(4 * t.val + b.val) * 128 + s.val - 128, by omega⟩ ⟨12800 + (g.val * 128 + d.val), by omega⟩) :=
  rows_of _ _ _ (fun R => X m c (ix2 R ⟨12800 + (g.val * 128 + d.val), by omega⟩)) t.val ht d
    (fun r => (halo_at _ g r d).trans (vp_read m c t ht r _)) (fun r => (own_at _ g r d).trans (vc_read m c t ht r _)) (fun r => (halo_at _ g r d).trans (vn_read m c t ht r _)) b s h h'

/-- The rotated queries of a point. -/
theorem queries_at (g b e : Fin 4) (r d : Fin 128) :
    QUERIES (args m c t) g b (ix2 ⟨e.val * 128 + r.val, by omega⟩ d)
      = rot (fun k => X m c (ix2 ⟨(4 * t.val + b.val) * 128 + r.val, by omega⟩ ⟨(g.val * 4 + e.val) * 128 + k.val, by omega⟩))
          (fun k => COS m c (ix2 ⟨(4 * t.val + b.val) * 128 + r.val, by omega⟩ k)) (fun k => SIN m c (ix2 ⟨(4 * t.val + b.val) * 128 + r.val, by omega⟩ k)) d := by
  refine (q4_at (fun e => QT ![b.val * 128, 0] (rows_in b) (args m c t).cc (args m c t).sc (tile (args m c t).q b g e)) e r d).trans ?_
  rw [qt_at]
  have hR : (⟨t.val * 512 + (b.val * 128 + r.val), by omega⟩ : Fin 16384) = ⟨(4 * t.val + b.val) * 128 + r.val, by omega⟩ := Fin.ext (by simp only []; omega)
  have hq : ∀ d : Fin 128, tile (args m c t).q b g e (ix2 r d) = X m c (ix2 ⟨(4 * t.val + b.val) * 128 + r.val, by omega⟩ ⟨(g.val * 4 + e.val) * 128 + d.val, by omega⟩) := fun d =>
    (tile_at _ b g e r d).trans ((q_read m c t ht _ _).trans (congrArg (fun R => X m c (ix2 R ⟨(g.val * 4 + e.val) * 128 + d.val, by omega⟩)) hR))
  have hc : (args m c t).cc (ix2 ⟨b.val * 128 + r.val, by omega⟩ d) = COS m c (ix2 ⟨(4 * t.val + b.val) * 128 + r.val, by omega⟩ ⟨d.val % 64, by omega⟩) :=
    ((cc_read m c t ht _ d).trans (cos_at m c _ d)).trans (congrArg (fun R => COS m c (ix2 R ⟨d.val % 64, by omega⟩)) hR)
  have hs : (args m c t).sc (ix2 ⟨b.val * 128 + r.val, by omega⟩ d) = turn (SIN m c) ⟨(4 * t.val + b.val) * 128 + r.val, by omega⟩ d :=
    ((sc_read m c t ht _ d).trans (sin_at m c _ d)).trans (congrArg (fun R => turn (SIN m c) R d) hR)
  rw [hq, hq, hc, hs]
  rfl

/-- What a row sees of the keys is what the reference's row sees. -/
theorem sees_eq (b : Fin 4) (r : Fin 128) (s : Fin 384) :
    IntOp.andi (see r.val s.val) (inside (IntOp.addi (first (args m c t).w b) (BitVec.ofNat 32 s.val))) = Cert.AttnRefIdeal.Value.SEES (ix3 ⟨4 * t.val + b.val, by omega⟩ r s) := by
  rw [Cert.AttnRefIdeal.Value.sees_at]
  have hw : first (args m c t).w b = IntOp.subi (IntOp.muli (BitVec.ofNat 32 (4 * t.val + b.val)) 128#32) 128#32 := by
    refine Eq.trans ?_ (first_eq ⟨t.val, ht⟩ b)
    show first (BitVec.ofNat 32 (grid0.coords t 0).val) b = _
    rw [(idx t).1]
    rfl
  rw [hw]
  rfl

/-- A key a row may see is a row of the sequence. -/
theorem sees_inside (b : Fin 4) (r : Fin 128) (s : Fin 384) (h : Cert.AttnRefIdeal.Value.SEES (ix3 ⟨4 * t.val + b.val, by omega⟩ r s) = 1#1) :
    128 ≤ (4 * t.val + b.val) * 128 + s.val ∧ (4 * t.val + b.val) * 128 + s.val < 16512 := by
  rw [Cert.AttnRefIdeal.Value.sees_at] at h
  have two : ∀ a b : BitVec 1, IntOp.andi a b = 1#1 → b = 1#1 := by decide
  exact inside_at ⟨4 * t.val + b.val, by omega⟩ s (two _ _ h)

/-- The reference's window of a block is rows of the sequence, where they lie in it. -/
theorem window_point (x : FVec Ideal Cert.AttnRefIdeal.S16384x4x128 .f32) (g b : Fin 4) (s : Fin 384) (d : Fin 128) (h : 128 ≤ (4 * t.val + b.val) * 128 + s.val) (h' : (4 * t.val + b.val) * 128 + s.val < 16512) :
    Cert.AttnRefIdeal.Value.WINDOW x (ix4 ⟨4 * t.val + b.val, by omega⟩ s g d) = x (ix3 ⟨(4 * t.val + b.val) * 128 + s.val - 128, by omega⟩ g d) :=
  Cert.AttnRefIdeal.Value.window_at x ⟨4 * t.val + b.val, by omega⟩ s g d h h'

/-- The reference's masked logits of a block. -/
theorem scores_point (g b e : Fin 4) (r : Fin 128) (s : Fin 384) :
    Cert.AttnRefIdeal.Value.SCORES (X m c) (COS m c) (SIN m c) (ix5 ⟨4 * t.val + b.val, by omega⟩ g e r s) = Scalar.select (Cert.AttnRefIdeal.Value.SEES (ix3 ⟨4 * t.val + b.val, by omega⟩ r s))
      ((∑ d : Fin 128, Cert.AttnRefIdeal.Value.WINDOW (Cert.AttnRefIdeal.Value.KR (Cert.AttnRefIdeal.Value.K (X m c)) (COS m c) (SIN m c)) (ix4 ⟨4 * t.val + b.val, by omega⟩ s g d)
        * Cert.AttnRefIdeal.Value.QR (Cert.AttnRefIdeal.Value.Q (X m c)) (COS m c) (SIN m c) (ix4 ⟨(4 * t.val + b.val) * 128 + r.val, by omega⟩ g e d)) * Ideal.ofBits .f32 0x3DB504F3#32) ⊥ :=
  Cert.AttnRefIdeal.Value.scores_at (X m c) (COS m c) (SIN m c) ⟨4 * t.val + b.val, by omega⟩ r g e s

/-- The masked logits of a point are the reference's. -/
theorem logits_eq (g b e : Fin 4) (r : Fin 128) (s : Fin 384) :
    LOGITS (args m c t) g b (ix2 ⟨e.val * 128 + r.val, by omega⟩ s) = Cert.AttnRefIdeal.Value.SCORES (X m c) (COS m c) (SIN m c) (ix5 ⟨4 * t.val + b.val, by omega⟩ g e r s) := by
  unfold LOGITS
  rw [logit_at, mask4_at, sees_eq m c t ht, scores_point m c t ht]
  by_cases h : Cert.AttnRefIdeal.Value.SEES (ix3 ⟨4 * t.val + b.val, by omega⟩ r s) = 1#1
  · obtain ⟨h1, h2⟩ := sees_inside t ht b r s h
    refine congrArg (fun y => Scalar.select _ y ⊥) ?_
    obtain ⟨w, hw, ew⟩ := scale_word
    rw [ew, ← Cert.M.sum_mul_real _ _ w hw]
    refine Finset.sum_congr rfl fun d _ => ?_
    rw [queries_at m c t ht g b e r d, keys_at m c t ht g b s d h1 h2, window_point t ht _ g b s _ h1 h2, Cert.AttnRefIdeal.Value.krot_at, Cert.AttnRefIdeal.Value.qrot_at]
    rw [mul_right_comm, mul_comm (rot _ _ _ d)]
  · have z : ∀ a : BitVec 1, a ≠ 1#1 → a = 0#1 := by decide
    rw [z _ h]
    rfl

/-- A logit the mask leaves is of a row of the sequence, whose values agree. -/
theorem vals_eq (g b e : Fin 4) (r d : Fin 128) (s : Fin 384) :
    Cert.AttnRefIdeal.Value.SCORES (X m c) (COS m c) (SIN m c) (ix5 ⟨4 * t.val + b.val, by omega⟩ g e r s) = (⊥ : EReal)
      ∨ VALS (args m c t) g (ix2 ⟨b.val * 128 + s.val, by omega⟩ d) = Cert.AttnRefIdeal.Value.WINDOW (Cert.AttnRefIdeal.Value.V (X m c)) (ix4 ⟨4 * t.val + b.val, by omega⟩ s g d) := by
  by_cases h : Cert.AttnRefIdeal.Value.SEES (ix3 ⟨4 * t.val + b.val, by omega⟩ r s) = 1#1
  · right
    obtain ⟨h1, h2⟩ := sees_inside t ht b r s h
    rw [vals_at m c t ht g b s d h1 h2, window_point t ht _ g b s _ h1 h2, Cert.AttnRefIdeal.Value.v_at]
  · left
    rw [scores_point m c t ht]
    have z : ∀ a : BitVec 1, a ≠ 1#1 → a = 0#1 := by decide
    rw [z _ h]
    rfl

/-- No logit is +∞, the arguments being real. -/
theorem scores_lt (hr : Cert.Pre_finite_scores.Reals (X m c) (SNK m c) (COS m c) (SIN m c)) (g b e : Fin 4) (r : Fin 128) (s : Fin 384) :
    Cert.AttnRefIdeal.Value.SCORES (X m c) (COS m c) (SIN m c) (ix5 ⟨4 * t.val + b.val, by omega⟩ g e r s) ≠ (⊤ : EReal) := by
  rw [scores_point m c t ht]
  by_cases h : Cert.AttnRefIdeal.Value.SEES (ix3 ⟨4 * t.val + b.val, by omega⟩ r s) = 1#1
  · obtain ⟨h1, h2⟩ := sees_inside t ht b r s h
    rw [h]
    simp only [window_point t ht _ g b s _ h1 h2, Cert.AttnRefIdeal.Value.krot_at, Cert.AttnRefIdeal.Value.qrot_at]
    obtain ⟨w, hw, ew⟩ := scale_word
    obtain ⟨u, hu⟩ := dot_real _ _
      (fun d => rot_real (fun k => X m c (ix2 ⟨(4 * t.val + b.val) * 128 + s.val - 128, by omega⟩ ⟨12288 + (g.val * 128 + k.val), by omega⟩)) _ _ (fun k => hr.k _ ⟨g.val * 128 + k.val, by omega⟩) (fun k => hr.c _ k) (fun k => hr.s _ k) d)
      (fun d => rot_real (fun k => X m c (ix2 ⟨(4 * t.val + b.val) * 128 + r.val, by omega⟩ ⟨(g.val * 4 + e.val) * 128 + k.val, by omega⟩)) _ _ (fun k => hr.q _ ⟨(g.val * 4 + e.val) * 128 + k.val, by omega⟩) (fun k => hr.c _ k) (fun k => hr.s _ k) d)
    have e1 := congrArg₂ (fun a b : EReal => a * b) hu ew
    intro e2
    exact EReal.coe_ne_top (u * w) (((EReal.coe_mul u w).trans e1.symm).trans e2)
  · have z : ∀ a : BitVec 1, a ≠ 1#1 → a = 0#1 := by decide
    rw [z _ h]
    exact bot_ne_top

/-- What a point stores for a head is the reference's result. -/
theorem res_at (hr : Cert.Pre_finite_scores.Reals (X m c) (SNK m c) (COS m c) (SIN m c)) (g b e : Fin 4) (r d : Fin 128) :
    RES (args m c t) g b e (ix2 r d) = Cert.AttnRefIdeal.Value.OUT (X m c) (SNK m c) (COS m c) (SIN m c) (ix2 ⟨(4 * t.val + b.val) * 128 + r.val, by omega⟩ ⟨(g.val * 4 + e.val) * 128 + d.val, by omega⟩) := by
  have o := Cert.AttnRefIdeal.Value.out_at (X m c) (SNK m c) (COS m c) (SIN m c) ⟨4 * t.val + b.val, by omega⟩ r g e d
  refine Eq.trans ?_ o.symm
  unfold RES
  rw [Cert.AttnIdeal.Tile.gated_at]
  have hR : (⟨t.val * 512 + (b.val * 128 + r.val), by omega⟩ : Fin 16384) = ⟨(4 * t.val + b.val) * 128 + r.val, by omega⟩ := Fin.ext (by simp only []; omega)
  have hg : tile (args m c t).gate b g e (ix2 r d) = X m c (ix2 ⟨(4 * t.val + b.val) * 128 + r.val, by omega⟩ ⟨2048 + ((g.val * 4 + e.val) * 128 + d.val), by omega⟩) :=
    (tile_at _ b g e r d).trans ((gate_read m c t ht _ _).trans (congrArg (fun R => X m c (ix2 R ⟨2048 + ((g.val * 4 + e.val) * 128 + d.val), by omega⟩)) hR))
  rw [hg]
  refine (mul_comm _ _).trans (congrArg (fun y : EReal => (show EReal from Ideal.logistic (X m c (ix2 ⟨(4 * t.val + b.val) * 128 + r.val, by omega⟩ ⟨2048 + ((g.val * 4 + e.val) * 128 + d.val), by omega⟩))) * y) ?_)
  unfold ATTS
  rw [att_at]
  have hs : SINKS (args m c t) g (ix2 ⟨e.val * 128 + r.val, by omega⟩ 0) = SNK m c (ix1 ⟨g.val * 4 + e.val, by omega⟩) :=
    (sink_at (fun e => snk (args m c t).sink g e) e r).trans ((snk_at _ g e).trans (sink_read m c t _))
  have hl : (fun s : Fin 384 => LOGITS (args m c t) g b (ix2 ⟨e.val * 128 + r.val, by omega⟩ s)) = fun s => Cert.AttnRefIdeal.Value.SCORES (X m c) (COS m c) (SIN m c) (ix5 ⟨4 * t.val + b.val, by omega⟩ g e r s) :=
    funext fun s => logits_eq m c t ht g b e r s
  rw [hs, hl]
  refine (soft_congr _ _ _ _ fun s => vals_eq m c t ht g b e r d s).trans ?_
  obtain ⟨σ, eσ⟩ := hr.σ ⟨g.val * 4 + e.val, by omega⟩
  rw [eσ]
  exact soft_eq _ _ σ fun s => scores_lt m c t ht hr g b e r s

/-- The block of the result a point writes. -/
theorem block_eq (hr : Cert.Pre_finite_scores.Reals (X m c) (SNK m c) (COS m c) (SIN m c)) (y : S512x2048.Idx) :
    View.canon (pieces (args m c t)) y = Cert.AttnRefIdeal.Value.OUT (X m c) (SNK m c) (COS m c) (SIN m c) (ix2 ⟨t.val * 512 + (y 0).val, by have := (y 0).isLt; have e : S512x2048.size 0 = 512 := rfl; omega⟩ (y 1)) := by
  refine View.canon_apply_of_pieces (fun y : S512x2048.Idx => Cert.AttnRefIdeal.Value.OUT (X m c) (SNK m c) (COS m c) (SIN m c) (ix2 ⟨t.val * 512 + (y 0).val, by have := (y 0).isLt; have e : S512x2048.size 0 = 512 := rfl; omega⟩ (y 1))) (pieces (args m c t)) ?_ y (View.cover_of_tiled _ ![128, 128] rfl y)
  intro p hp
  obtain ⟨⟨g, b, e⟩, _, rfl⟩ := List.mem_map.mp hp
  intro x
  obtain ⟨r, d, rfl⟩ : ∃ r d : Fin 128, x = ix2 r d := ⟨x 0, x 1, by funext a; fin_cases a <;> rfl⟩
  refine (res_at m c t ht hr g b e r d).trans ?_
  refine congrArg (Cert.AttnRefIdeal.Value.OUT (X m c) (SNK m c) (COS m c) (SIN m c)) ?_
  show _ = ix2 ⟨t.val * 512 + ((Rect.unit (s := S512x2048) ![b.val * 128, (g.val * 4 + e.val) * 128] ![128, 128] (tile_in b g e)).emb (ix2 r d) 0).val, _⟩ ((Rect.unit (s := S512x2048) ![b.val * 128, (g.val * 4 + e.val) * 128] ![128, 128] (tile_in b g e)).emb (ix2 r d) 1)
  simp only [tile_emb]
  exact congrArg (fun R => ix2 R _) (Fin.ext (by show (4 * t.val + b.val) * 128 + r.val = t.val * 512 + (b.val * 128 + r.val); omega))

end Point

/-- The array the call leaves is the reference's. -/
theorem final15 (m : (ℓ : Loc nD τ sig) → Buf (Elt Ideal) ℓ) (c : Dev nD) (hr : Cert.Pre_finite_scores.Reals (X m c) (SNK m c) (COS m c) (SIN m c)) :
    (dats m 0 c).arrAt 15 cfg0.N = Cert.AttnRefIdeal.Value.OUT (X m c) (SNK m c) (COS m c) (SIN m c) := by
  refine (dats m 0 c).arrAt_eq_of_covers 15 _ (by decide +kernel) fun t hf y => ?_
  blk_simp
  rw [out15]
  idx_vars y
  have ht : t.val < 32 := lt_of_lt_of_eq t.isLt N_0
  refine (block_eq m c t ht hr _).trans ?_
  blk_ext [idx t]

end Cert.AttnIdeal.Value

namespace Cert.Proof

open Idealize.ShloMosaic Idealize.SL.Sem

/-- The attention computes the reference's result, where its arguments are finite. -/
theorem algebraic_attn : Cert.algebraic_AttnIdeal_AttnRefIdeal_pre_finite_scores (hAttnIdeal := Cert.AttnIdeal.Gen.facts) (hAttnRefIdeal := Cert.AttnRefIdeal.Gen.facts) (hPre_finite_scores := Cert.Pre_finite_scores.Gen.facts) := by
  pair_intro
  · run_from Cert.AttnIdeal.Value.run_blocks m g
  · run_from Cert.AttnRefIdeal.Value.run m' g'
    obtain ⟨h0, h1, h2, h3⟩ := hagree c
    rw [Cert.AttnIdeal.Value.final15 m c (Cert.Pre_finite_scores.reals_of _ _ _ _ (hpre c))]
    refine (Cert.AttnRefIdeal.Value.res_eq m' c).trans ?_
    rw [h0, h1, h2, h3]

end Cert.Proof

end
-- ==== Proof.lean ====
/- The proof of the certificate's claim. -/
module

public import proofs.«01_k».proof.Defs
public import proofs.«01_k».proof.Proof.Frames
public import proofs.«01_k».proof.Proof.FfnValue
public import proofs.«01_k».proof.Proof.InprojValue
public import proofs.«01_k».proof.Proof.OutprojValue
public import proofs.«01_k».proof.Proof.AttnValue

@[expose] public section

noncomputable section

namespace Cert.Proof

open Idealize.ShloMosaic Idealize.SL.Sem

/-- Everything the certificate claims: the four calls' frames, the replaced mask, and the values. -/
theorem claim : Cert.Claim :=
  ⟨Cert.Attn.Gen.facts, Cert.AttnIdeal.Gen.facts, Cert.AttnRefIdeal.Gen.facts,
   Cert.Ffn.Gen.facts, Cert.FfnIdeal.Gen.facts, Cert.FfnRefIdeal.Gen.facts,
   Cert.Inproj.Gen.facts, Cert.InprojIdeal.Gen.facts, Cert.InprojRefIdeal.Gen.facts,
   Cert.Outproj.Gen.facts, Cert.OutprojIdeal.Gen.facts, Cert.OutprojRefIdeal.Gen.facts, Cert.Pre_finite_scores.Gen.facts,
   frame_attn, frame_attn_ideal, fun m ρ _ => Cert.AttnIdeal.Gen.frame m ρ, frame_attn_ref, fun m ρ _ => frame_attn_ref m ρ trivial,
   frame_ffn, frame_ffn_ideal, frame_ffn_ref,
   frame_inproj, frame_inproj_ideal, frame_inproj_ref, frame_outproj, frame_outproj_ideal, frame_outproj_ref,
   preserves_attn, algebraic_attn, trivial, algebraic_ffn, trivial, algebraic_inproj, trivial, algebraic_outproj⟩

end Cert.Proof

end
